-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S26x16384x64 : Shape := ⟨3, ![26, 16384, 64]⟩
abbrev S26x64 : Shape := ⟨2, ![26, 64]⟩
abbrev S26x1x64 : Shape := ⟨3, ![26, 1, 64]⟩
abbrev S1x1 : Shape := ⟨2, ![1, 1]⟩
abbrev S_ : Shape := ⟨0, ![]⟩
abbrev S4x26x256x64 : Shape := ⟨4, ![4, 26, 256, 64]⟩
abbrev S208x208 : Shape := ⟨2, ![208, 208]⟩
abbrev S4x13 : Shape := ⟨2, ![4, 13]⟩
abbrev S1x2x256x64 : Shape := ⟨4, ![1, 2, 256, 64]⟩
abbrev S2x256x64 : Shape := ⟨3, ![2, 256, 64]⟩
abbrev S1x26x256x64 : Shape := ⟨4, ![1, 26, 256, 64]⟩
abbrev S26x256x64 : Shape := ⟨3, ![26, 256, 64]⟩
abbrev S208x32x64 : Shape := ⟨3, ![208, 32, 64]⟩
abbrev S208x2048 : Shape := ⟨2, ![208, 2048]⟩
abbrev S26x208 : Shape := ⟨2, ![26, 208]⟩
abbrev S26x26 : Shape := ⟨2, ![26, 26]⟩
abbrev S26 : Shape := ⟨1, ![26]⟩
abbrev S26x1 : Shape := ⟨2, ![26, 1]⟩
abbrev S1x26 : Shape := ⟨2, ![1, 26]⟩
abbrev S1x26x26 : Shape := ⟨3, ![1, 26, 26]⟩
abbrev S1 : Shape := ⟨1, ![1]⟩
abbrev S1x1x1 : Shape := ⟨3, ![1, 1, 1]⟩

abbrev nBuf : Space → Nat
  | .hbm => 6
  | .vmem => 5
  | .smem => 0
  | _ => 0

abbrev bufTy : (tb : Table) → Fin (tcTables nBuf tb) → BufTy
  | .hbm, ⟨0, _⟩ => ⟨S26x16384x64, .f32⟩
  | .hbm, ⟨1, _⟩ => ⟨S26x64, .f32⟩
  | .hbm, ⟨2, _⟩ => ⟨S26x1x64, .f32⟩
  | .hbm, ⟨3, _⟩ => ⟨S26x16384x64, .f32⟩
  | .hbm, ⟨4, _⟩ => ⟨S1x1, .f32⟩
  | .hbm, ⟨5, _⟩ => ⟨S_, .f32⟩
  | .local _ .vmem, ⟨0, _⟩ => ⟨S26x1x64, .f32⟩
  | .local _ .vmem, ⟨1, _⟩ => ⟨S1x1, .f32⟩
  | .local _ .vmem, ⟨2, _⟩ => ⟨S4x26x256x64, .f32⟩
  | .local _ .vmem, ⟨3, _⟩ => ⟨S4x26x256x64, .f32⟩
  | .local _ .vmem, ⟨4, _⟩ => ⟨S208x208, .f32⟩
  | _, _ => ⟨S26x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_call0_v1_1 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c2_i32 : BitVec 32 := 2#32
  let v4 : BitVec 32 := Scalar.addi arg0 c2_i32
  let c64_i32 : BitVec 32 := 64#32
  let v5 : BitVec 1 := Scalar.cmpi .slt v4 c64_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c0_i32_186 : BitVec 32 := 0#32
  ![v192.toNat, 0]
def k0_off2 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c0_i32_187 : BitVec 32 := 0#32
  let c0_i32_188 : BitVec 32 := 0#32
  let c0_i32_189 : BitVec 32 := 0#32
  ![v192.toNat, 0, 0, 0]
def k0_off3 (i : grid0.Coords) : Fin 3 → Nat :=
  let c0_i32_190 : BitVec 32 := 0#32
  let arg0 : BitVec 32 := BitVec.ofNat 32 (i 0).val
  let c2_i32_182 : BitVec 32 := 2#32
  let v190 : BitVec 32 := Scalar.addi arg0 c2_i32_182
  let c256_i32_185 : BitVec 32 := 256#32
  let v193 : BitVec 32 := Scalar.muli v190 c256_i32_185
  let c0_i32_191 : BitVec 32 := 0#32
  ![0, v193.toNat, 0]
def k0_off4 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c1_i32_193 : BitVec 32 := 1#32
  ![v192.toNat, 1]
def k0_off5 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c2_i32_194 : BitVec 32 := 2#32
  let c0_i32_195 : BitVec 32 := 0#32
  let c0_i32_196 : BitVec 32 := 0#32
  ![v192.toNat, 2, 0, 0]
def k0_off6 (i : grid0.Coords) : Fin 3 → Nat :=
  let c2_i32_197 : BitVec 32 := 2#32
  let arg0 : BitVec 32 := BitVec.ofNat 32 (i 0).val
  let c2_i32_182 : BitVec 32 := 2#32
  let v190 : BitVec 32 := Scalar.addi arg0 c2_i32_182
  let c256_i32_192 : BitVec 32 := 256#32
  let v199 : BitVec 32 := Scalar.muli v190 c256_i32_192
  let c0_i32_198 : BitVec 32 := 0#32
  ![2, v199.toNat, 0]
def k0_off7 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c2_i32_200 : BitVec 32 := 2#32
  ![v192.toNat, 2]
def k0_off8 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c4_i32_201 : BitVec 32 := 4#32
  let c0_i32_202 : BitVec 32 := 0#32
  let c0_i32_203 : BitVec 32 := 0#32
  ![v192.toNat, 4, 0, 0]
def k0_off9 (i : grid0.Coords) : Fin 3 → Nat :=
  let c4_i32_204 : BitVec 32 := 4#32
  let arg0 : BitVec 32 := BitVec.ofNat 32 (i 0).val
  let c2_i32_182 : BitVec 32 := 2#32
  let v190 : BitVec 32 := Scalar.addi arg0 c2_i32_182
  let c256_i32_199 : BitVec 32 := 256#32
  let v205 : BitVec 32 := Scalar.muli v190 c256_i32_199
  let c0_i32_205 : BitVec 32 := 0#32
  ![4, v205.toNat, 0]
def k0_off10 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c3_i32_207 : BitVec 32 := 3#32
  ![v192.toNat, 3]
def k0_off11 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c6_i32_208 : BitVec 32 := 6#32
  let c0_i32_209 : BitVec 32 := 0#32
  let c0_i32_210 : BitVec 32 := 0#32
  ![v192.toNat, 6, 0, 0]
def k0_off12 (i : grid0.Coords) : Fin 3 → Nat :=
  let c6_i32_211 : BitVec 32 := 6#32
  let arg0 : BitVec 32 := BitVec.ofNat 32 (i 0).val
  let c2_i32_182 : BitVec 32 := 2#32
  let v190 : BitVec 32 := Scalar.addi arg0 c2_i32_182
  let c256_i32_206 : BitVec 32 := 256#32
  let v211 : BitVec 32 := Scalar.muli v190 c256_i32_206
  let c0_i32_212 : BitVec 32 := 0#32
  ![6, v211.toNat, 0]
def k0_off13 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c4_i32_214 : BitVec 32 := 4#32
  ![v192.toNat, 4]
def k0_off14 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c8_i32_215 : BitVec 32 := 8#32
  let c0_i32_216 : BitVec 32 := 0#32
  let c0_i32_217 : BitVec 32 := 0#32
  ![v192.toNat, 8, 0, 0]
def k0_off15 (i : grid0.Coords) : Fin 3 → Nat :=
  let c8_i32_218 : BitVec 32 := 8#32
  let arg0 : BitVec 32 := BitVec.ofNat 32 (i 0).val
  let c2_i32_182 : BitVec 32 := 2#32
  let v190 : BitVec 32 := Scalar.addi arg0 c2_i32_182
  let c256_i32_213 : BitVec 32 := 256#32
  let v217 : BitVec 32 := Scalar.muli v190 c256_i32_213
  let c0_i32_219 : BitVec 32 := 0#32
  ![8, v217.toNat, 0]
def k0_off16 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c5_i32_221 : BitVec 32 := 5#32
  ![v192.toNat, 5]
def k0_off17 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c10_i32_222 : BitVec 32 := 10#32
  let c0_i32_223 : BitVec 32 := 0#32
  let c0_i32_224 : BitVec 32 := 0#32
  ![v192.toNat, 10, 0, 0]
def k0_off18 (i : grid0.Coords) : Fin 3 → Nat :=
  let c10_i32_225 : BitVec 32 := 10#32
  let arg0 : BitVec 32 := BitVec.ofNat 32 (i 0).val
  let c2_i32_182 : BitVec 32 := 2#32
  let v190 : BitVec 32 := Scalar.addi arg0 c2_i32_182
  let c256_i32_220 : BitVec 32 := 256#32
  let v223 : BitVec 32 := Scalar.muli v190 c256_i32_220
  let c0_i32_226 : BitVec 32 := 0#32
  ![10, v223.toNat, 0]
def k0_off19 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c6_i32_228 : BitVec 32 := 6#32
  ![v192.toNat, 6]
def k0_off20 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c12_i32_229 : BitVec 32 := 12#32
  let c0_i32_230 : BitVec 32 := 0#32
  let c0_i32_231 : BitVec 32 := 0#32
  ![v192.toNat, 12, 0, 0]
def k0_off21 (i : grid0.Coords) : Fin 3 → Nat :=
  let c12_i32_232 : BitVec 32 := 12#32
  let arg0 : BitVec 32 := BitVec.ofNat 32 (i 0).val
  let c2_i32_182 : BitVec 32 := 2#32
  let v190 : BitVec 32 := Scalar.addi arg0 c2_i32_182
  let c256_i32_227 : BitVec 32 := 256#32
  let v229 : BitVec 32 := Scalar.muli v190 c256_i32_227
  let c0_i32_233 : BitVec 32 := 0#32
  ![12, v229.toNat, 0]
def k0_off22 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c7_i32_235 : BitVec 32 := 7#32
  ![v192.toNat, 7]
def k0_off23 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c14_i32_236 : BitVec 32 := 14#32
  let c0_i32_237 : BitVec 32 := 0#32
  let c0_i32_238 : BitVec 32 := 0#32
  ![v192.toNat, 14, 0, 0]
def k0_off24 (i : grid0.Coords) : Fin 3 → Nat :=
  let c14_i32_239 : BitVec 32 := 14#32
  let arg0 : BitVec 32 := BitVec.ofNat 32 (i 0).val
  let c2_i32_182 : BitVec 32 := 2#32
  let v190 : BitVec 32 := Scalar.addi arg0 c2_i32_182
  let c256_i32_234 : BitVec 32 := 256#32
  let v235 : BitVec 32 := Scalar.muli v190 c256_i32_234
  let c0_i32_240 : BitVec 32 := 0#32
  ![14, v235.toNat, 0]
def k0_off25 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c8_i32_242 : BitVec 32 := 8#32
  ![v192.toNat, 8]
def k0_off26 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c16_i32_243 : BitVec 32 := 16#32
  let c0_i32_244 : BitVec 32 := 0#32
  let c0_i32_245 : BitVec 32 := 0#32
  ![v192.toNat, 16, 0, 0]
def k0_off27 (i : grid0.Coords) : Fin 3 → Nat :=
  let c16_i32_246 : BitVec 32 := 16#32
  let arg0 : BitVec 32 := BitVec.ofNat 32 (i 0).val
  let c2_i32_182 : BitVec 32 := 2#32
  let v190 : BitVec 32 := Scalar.addi arg0 c2_i32_182
  let c256_i32_241 : BitVec 32 := 256#32
  let v241 : BitVec 32 := Scalar.muli v190 c256_i32_241
  let c0_i32_247 : BitVec 32 := 0#32
  ![16, v241.toNat, 0]
def k0_off28 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c9_i32_249 : BitVec 32 := 9#32
  ![v192.toNat, 9]
def k0_off29 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c18_i32_250 : BitVec 32 := 18#32
  let c0_i32_251 : BitVec 32 := 0#32
  let c0_i32_252 : BitVec 32 := 0#32
  ![v192.toNat, 18, 0, 0]
def k0_off30 (i : grid0.Coords) : Fin 3 → Nat :=
  let c18_i32_253 : BitVec 32 := 18#32
  let arg0 : BitVec 32 := BitVec.ofNat 32 (i 0).val
  let c2_i32_182 : BitVec 32 := 2#32
  let v190 : BitVec 32 := Scalar.addi arg0 c2_i32_182
  let c256_i32_248 : BitVec 32 := 256#32
  let v247 : BitVec 32 := Scalar.muli v190 c256_i32_248
  let c0_i32_254 : BitVec 32 := 0#32
  ![18, v247.toNat, 0]
def k0_off31 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c10_i32_256 : BitVec 32 := 10#32
  ![v192.toNat, 10]
def k0_off32 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c20_i32_257 : BitVec 32 := 20#32
  let c0_i32_258 : BitVec 32 := 0#32
  let c0_i32_259 : BitVec 32 := 0#32
  ![v192.toNat, 20, 0, 0]
def k0_off33 (i : grid0.Coords) : Fin 3 → Nat :=
  let c20_i32_260 : BitVec 32 := 20#32
  let arg0 : BitVec 32 := BitVec.ofNat 32 (i 0).val
  let c2_i32_182 : BitVec 32 := 2#32
  let v190 : BitVec 32 := Scalar.addi arg0 c2_i32_182
  let c256_i32_255 : BitVec 32 := 256#32
  let v253 : BitVec 32 := Scalar.muli v190 c256_i32_255
  let c0_i32_261 : BitVec 32 := 0#32
  ![20, v253.toNat, 0]
def k0_off34 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c11_i32_263 : BitVec 32 := 11#32
  ![v192.toNat, 11]
def k0_off35 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c22_i32_264 : BitVec 32 := 22#32
  let c0_i32_265 : BitVec 32 := 0#32
  let c0_i32_266 : BitVec 32 := 0#32
  ![v192.toNat, 22, 0, 0]
def k0_off36 (i : grid0.Coords) : Fin 3 → Nat :=
  let c22_i32_267 : BitVec 32 := 22#32
  let arg0 : BitVec 32 := BitVec.ofNat 32 (i 0).val
  let c2_i32_182 : BitVec 32 := 2#32
  let v190 : BitVec 32 := Scalar.addi arg0 c2_i32_182
  let c256_i32_262 : BitVec 32 := 256#32
  let v259 : BitVec 32 := Scalar.muli v190 c256_i32_262
  let c0_i32_268 : BitVec 32 := 0#32
  ![22, v259.toNat, 0]
def k0_off37 (i : grid0.Coords) : Fin 2 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c12_i32_270 : BitVec 32 := 12#32
  ![v192.toNat, 12]
def k0_off38 (i : grid0.Coords) : Fin 4 → Nat :=
  let arg0 : BitVec 32 := BitVec.ofNat 32 (i 0).val
  let c2_i32_183 : BitVec 32 := 2#32
  let v191 : BitVec 32 := Scalar.addi arg0 c2_i32_183
  let c4_i32_184 : BitVec 32 := 4#32
  let v192 : BitVec 32 := Scalar.remsi v191 c4_i32_184
  let c24_i32_271 : BitVec 32 := 24#32
  let c0_i32_272 : BitVec 32 := 0#32
  let c0_i32_273 : BitVec 32 := 0#32
  ![v192.toNat, 24, 0, 0]
def k0_off39 (i : grid0.Coords) : Fin 3 → Nat :=
  let c24_i32_274 : BitVec 32 := 24#32
  let arg0 : BitVec 32 := BitVec.ofNat 32 (i 0).val
  let c2_i32_182 : BitVec 32 := 2#32
  let v190 : BitVec 32 := Scalar.addi arg0 c2_i32_182
  let c256_i32_269 : BitVec 32 := 256#32
  let v265 : BitVec 32 := Scalar.muli v190 c256_i32_269
  let c0_i32_275 : BitVec 32 := 0#32
  ![24, v265.toNat, 0]
def k0_off40 (i : grid0.Coords) : Fin 2 → Nat :=
  let arg0 : BitVec 32 := BitVec.ofNat 32 (i 0).val
  let c4_i32 : BitVec 32 := 4#32
  let v0 : BitVec 32 := Scalar.remsi arg0 c4_i32
  let c0_i32_2 : BitVec 32 := 0#32
  ![v0.toNat, 0]
def k0_off41 (i : grid0.Coords) : Fin 4 → Nat :=
  let arg0 : BitVec 32 := BitVec.ofNat 32 (i 0).val
  let c4_i32 : BitVec 32 := 4#32
  let v0 : BitVec 32 := Scalar.remsi arg0 c4_i32
  let c0_i32_3 : BitVec 32 := 0#32
  let c0_i32_4 : BitVec 32 := 0#32
  let c0_i32_5 : BitVec 32 := 0#32
  ![v0.toNat, 0, 0, 0]
def k0_off42 (i : grid0.Coords) : Fin 3 → Nat :=
  let c0_i32_6 : BitVec 32 := 0#32
  let arg0 : BitVec 32 := BitVec.ofNat 32 (i 0).val
  let c256_i32 : BitVec 32 := 256#32
  let v8 : BitVec 32 := Scalar.muli arg0 c256_i32
  let c0_i32_7 : BitVec 32 := 0#32
  ![0, v8.toNat, 0]
def k0_off43 (i : grid0.Coords) : Fin 2 → Nat :=
  let arg0 : BitVec 32 := BitVec.ofNat 32 (i 0).val
  let c4_i32 : BitVec 32 := 4#32
  let v0 : BitVec 32 := Scalar.remsi arg0 c4_i32
  let c1_i32 : BitVec 32 := 1#32
  ![v0.toNat, 1]
def k0_off44 (i : grid0.Coords) : Fin 4 → Nat :=
  let arg0 : BitVec 32 := BitVec.ofNat 32 (i 0).val
  let c4_i32 : BitVec 32 := 4#32
  let v0 : BitVec 32 := Scalar.remsi arg0 c4_i32
  let c2_i32_9 : BitVec 32 := 2#32
  let c0_i32_10 : BitVec 32 := 0#32
  let c0_i32_11 : BitVec 32 := 0#32
  ![v0.toNat, 2, 0, 0]
def k0_off45 (i : grid0.Coords) : Fin 3 → Nat :=
  let c2_i32_12 : BitVec 32 := 2#32
  let arg0 : BitVec 32 := BitVec.ofNat 32 (i 0).val
  let c256_i32_8 : BitVec 32 := 256#32
  let v14 : BitVec 32 := Scalar.muli arg0 c256_i32_8
  let c0_i32_13 : BitVec 32 := 0#32
  ![2, v14.toNat, 0]
def k0_off46 (i : grid0.Coords) : Fin 2 → Nat :=
  let arg0 : BitVec 32 := BitVec.ofNat 32 (i 0).val
  let c4_i32 : BitVec 32 := 4#32
  let v0 : BitVec 32 := Scalar.remsi arg0 c4_i32
  let c2_i32_15 : BitVec 32 := 2#32
  ![v0.toNat, 2]
def k0_off47 (i : grid0.Coords) : Fin 4 → Nat :=
  let arg0 : BitVec 32 := BitVec.ofNat 32 (i 0).val
  let c4_i32 : BitVec 32 := 4#32
  let v0 : BitVec 32 := Scalar.remsi arg0 c4_i32
  let c4_i32_16 : BitVec 32 := 4#32
  let c0_i32_17 : BitVec 32 := 0#32
  let c0_i32_18 : BitVec 32 := 0#32
  ![v0.toNat, 4, 0, 0]
def k0_off48 (i : grid0.Coords) : Fin 3 → Nat :=
  let c4_i32_19 : BitVec 32 := 4#32
  let arg0 : BitVec 32 := BitVec.ofNat 32 (i 0).val
  let c256_i32_14 : BitVec 32 := 256#32
  let v20 : BitVec 32 := Scalar.muli arg0 c256_i32_14
  let c0_i32_20 : BitVec 32 := 0#32
  ![4, v20.toNat, 0]
def k0_off49 (i : grid0.Coords) : Fin 2 → Nat :=
  let arg0 : BitVec 32 := BitVec.ofNat 32 (i 0).val
  let c4_i32 : BitVec 32 := 4#32
  let v0 : BitVec 32 := Scalar.remsi arg0 c4_i32
  let c3_i32 : BitVec 32 := 3#32
  ![v0.toNat, 3]
def k0_off50 (i : grid0.Coords) : Fin 4 → Nat :=
  let arg0 : BitVec 32 := BitVec.ofNat 32 (i 0).val
  let c4_i32 : BitVec 32 := 4#32
  let v0 : BitVec 32 := Scalar.remsi arg0 c4_i32
  let c6_i32 : BitVec 32 := 6#32
  let c0_i32_22 : BitVec 32 := 0#32
  let c0_i32_23 : BitVec 32 := 0#32
  ![v0.toNat, 6, 0, 0]
def k0_off51 (i : grid0.Coords) : Fin 3 → Nat :=
  let c6_i32_24 : BitVec 32 := 6#32
  let arg0 : BitVec 32 := BitVec.ofNat 32 (i 0).val
  let c256_i32_21 : BitVec 32 := 256#32
  let v26 : BitVec 32 := Scalar.muli arg0 c256_i32_21
  let c0_i32_25 : BitVec 32 := 0#32
  ![6, v26.toNat, 0]
def k0_off52 (i : grid0.Coords) : Fin 2 → Nat :=
  let arg0 : BitVec 32 := BitVec.ofNat 32 (i 0).val
  let c4_i32 : BitVec 32 := 4#32
  let v0 : BitVec 32 := Scalar.remsi arg0 c4_i32
  let c4_i32_27 : BitVec 32 := 4#32
  ![v0.toNat, 4]
def k0_off53 (i : grid0.Coords) : Fin 4 → Nat :=
  let arg0 : BitVec 32 := BitVec.ofNat 32 (i 0).val
  let c4_i32 : BitVec 32 := 4#32
  let v0 : BitVec 32 := Scalar.remsi arg0 c4_i32
  let c8_i32 : BitVec 32 := 8#32
  let c0_i32_28 : BitVec 32 := 0#32
  let c0_i32_29 : BitVec 32 := 0#32
  ![v0.toNat, 8, 0, 0]
def k0_off54 (i : grid0.Coords) : Fin 3 → Nat :=
  let c8_i32_30 : BitVec 32 := 8#32
  let arg0 : BitVec 32 := BitVec.ofNat 32 (i 0).val
  let c256_i32_26 : BitVec 32 := 256#32
  let v32 : BitVec 32 := Scalar.muli arg0 c256_i32_26
  let c0_i32_31 : BitVec 32 := 0#32
  ![8, v32.toNat, 0]
def k0_off55 (i : grid0.Coords) : Fin 2 → Nat :=
  let arg0 : BitVec 32 := BitVec.ofNat 32 (i 0).val
  let c4_i32 : BitVec 32 := 4#32
  let v0 : BitVec 32 := Scalar.remsi arg0 c4_i32
  let c5_i32 : BitVec 32 := 5#32
  ![v0.toNat, 5]
def k0_off56 (i : grid0.Coords) : Fin 4 → Nat :=
  let arg0 : BitVec 32 := BitVec.ofNat 32 (i 0).val
  let c4_i32 : BitVec 32 := 4#32
  let v0 : BitVec 32 := Scalar.remsi arg0 c4_i32
  let c10_i32 : BitVec 32 := 10#32
  let c0_i32_33 : BitVec 32 := 0#32
  let c0_i32_34 : BitVec 32 := 0#32
  ![v0.toNat, 10, 0, 0]
def k0_off57 (i : grid0.Coords) : Fin 3 → Nat :=
  let c10_i32_35 : BitVec 32 := 10#32
  let arg0 : BitVec 32 := BitVec.ofNat 32 (i 0).val
  let c256_i32_32 : BitVec 32 := 256#32
  let v38 : BitVec 32 := Scalar.muli arg0 c256_i32_32
  let c0_i32_36 : BitVec 32 := 0#32
  ![10, v38.toNat, 0]
def k0_off58 (i : grid0.Coords) : Fin 2 → Nat :=
  let arg0 : BitVec 32 := BitVec.ofNat 32 (i 0).val
  let c4_i32 : BitVec 32 := 4#32
  let v0 : BitVec 32 := Scalar.remsi arg0 c4_i32
  let c6_i32_38 : BitVec 32 := 6#32
  ![v0.toNat, 6]
def k0_off59 (i : grid0.Coords) : Fin 4 → Nat :=
  let arg0 : BitVec 32 := BitVec.ofNat 32 (i 0).val
  let c4_i32 : BitVec 32 := 4#32
  let v0 : BitVec 32 := Scalar.remsi arg0 c4_i32
  let c12_i32 : BitVec 32 := 12#32
  let c0_i32_39 : BitVec 32 := 0#32
  let c0_i32_40 : BitVec 32 := 0#32
  ![v0.toNat, 12, 0, 0]
def k0_off60 (i : grid0.Coords) : Fin 3 → Nat :=
  let c12_i32_41 : BitVec 32 := 12#32
  let arg0 : BitVec 32 := BitVec.ofNat 32 (i 0).val
  let c256_i32_37 : BitVec 32 := 256#32
  let v44 : BitVec 32 := Scalar.muli arg0 c256_i32_37
  let c0_i32_42 : BitVec 32 := 0#32
  ![12, v44.toNat, 0]
def k0_off61 (i : grid0.Coords) : Fin 2 → Nat :=
  let arg0 : BitVec 32 := BitVec.ofNat 32 (i 0).val
  let c4_i32 : BitVec 32 := 4#32
  let v0 : BitVec 32 := Scalar.remsi arg0 c4_i32
  let c7_i32 : BitVec 32 := 7#32
  ![v0.toNat, 7]
def k0_off62 (i : grid0.Coords) : Fin 4 → Nat :=
  let arg0 : BitVec 32 := BitVec.ofNat 32 (i 0).val
  let c4_i32 : BitVec 32 := 4#32
  let v0 : BitVec 32 := Scalar.remsi arg0 c4_i32
  let c14_i32 : BitVec 32 := 14#32
  let c0_i32_44 : BitVec 32 := 0#32
  let c0_i32_45 : BitVec 32 := 0#32
  ![v0.toNat, 14, 0, 0]
def k0_off63 (i : grid0.Coords) : Fin 3 → Nat :=
  let c14_i32_46 : BitVec 32 := 14#32
  let arg0 : BitVec 32 := BitVec.ofNat 32 (i 0).val
  let c256_i32_43 : BitVec 32 := 256#32
  let v50 : BitVec 32 := Scalar.muli arg0 c256_i32_43
  let c0_i32_47 : BitVec 32 := 0#32
  ![14, v50.toNat, 0]
def k0_off64 (i : grid0.Coords) : Fin 2 → Nat :=
  let arg0 : BitVec 32 := BitVec.ofNat 32 (i 0).val
  let c4_i32 : BitVec 32 := 4#32
  let v0 : BitVec 32 := Scalar.remsi arg0 c4_i32
  let c8_i32_49 : BitVec 32 := 8#32
  ![v0.toNat, 8]
def k0_off65 (i : grid0.Coords) : Fin 4 → Nat :=
  let arg0 : BitVec 32 := BitVec.ofNat 32 (i 0).val
  let c4_i32 : BitVec 32 := 4#32
  let v0 : BitVec 32 := Scalar.remsi arg0 c4_i32
  let c16_i32 : BitVec 32 := 16#32
  let c0_i32_50 : BitVec 32 := 0#32
  let c0_i32_51 : BitVec 32 := 0#32
  ![v0.toNat, 16, 0, 0]
def k0_off66 (i : grid0.Coords) : Fin 3 → Nat :=
  let c16_i32_52 : BitVec 32 := 16#32
  let arg0 : BitVec 32 := BitVec.ofNat 32 (i 0).val
  let c256_i32_48 : BitVec 32 := 256#32
  let v56 : BitVec 32 := Scalar.muli arg0 c256_i32_48
  let c0_i32_53 : BitVec 32 := 0#32
  ![16, v56.toNat, 0]
def k0_off67 (i : grid0.Coords) : Fin 2 → Nat :=
  let arg0 : BitVec 32 := BitVec.ofNat 32 (i 0).val
  let c4_i32 : BitVec 32 := 4#32
  let v0 : BitVec 32 := Scalar.remsi arg0 c4_i32
  let c9_i32 : BitVec 32 := 9#32
  ![v0.toNat, 9]
def k0_off68 (i : grid0.Coords) : Fin 4 → Nat :=
  let arg0 : BitVec 32 := BitVec.ofNat 32 (i 0).val
  let c4_i32 : BitVec 32 := 4#32
  let v0 : BitVec 32 := Scalar.remsi arg0 c4_i32
  let c18_i32 : BitVec 32 := 18#32
  let c0_i32_55 : BitVec 32 := 0#32
  let c0_i32_56 : BitVec 32 := 0#32
  ![v0.toNat, 18, 0, 0]
def k0_off69 (i : grid0.Coords) : Fin 3 → Nat :=
  let c18_i32_57 : BitVec 32 := 18#32
  let arg0 : BitVec 32 := BitVec.ofNat 32 (i 0).val
  let c256_i32_54 : BitVec 32 := 256#32
  let v62 : BitVec 32 := Scalar.muli arg0 c256_i32_54
  let c0_i32_58 : BitVec 32 := 0#32
  ![18, v62.toNat, 0]
def k0_off70 (i : grid0.Coords) : Fin 2 → Nat :=
  let arg0 : BitVec 32 := BitVec.ofNat 32 (i 0).val
  let c4_i32 : BitVec 32 := 4#32
  let v0 : BitVec 32 := Scalar.remsi arg0 c4_i32
  let c10_i32_60 : BitVec 32 := 10#32
  ![v0.toNat, 10]
def k0_off71 (i : grid0.Coords) : Fin 4 → Nat :=
  let arg0 : BitVec 32 := BitVec.ofNat 32 (i 0).val
  let c4_i32 : BitVec 32 := 4#32
  let v0 : BitVec 32 := Scalar.remsi arg0 c4_i32
  let c20_i32 : BitVec 32 := 20#32
  let c0_i32_61 : BitVec 32 := 0#32
  let c0_i32_62 : BitVec 32 := 0#32
  ![v0.toNat, 20, 0, 0]
def k0_off72 (i : grid0.Coords) : Fin 3 → Nat :=
  let c20_i32_63 : BitVec 32 := 20#32
  let arg0 : BitVec 32 := BitVec.ofNat 32 (i 0).val
  let c256_i32_59 : BitVec 32 := 256#32
  let v68 : BitVec 32 := Scalar.muli arg0 c256_i32_59
  let c0_i32_64 : BitVec 32 := 0#32
  ![20, v68.toNat, 0]
def k0_off73 (i : grid0.Coords) : Fin 2 → Nat :=
  let arg0 : BitVec 32 := BitVec.ofNat 32 (i 0).val
  let c4_i32 : BitVec 32 := 4#32
  let v0 : BitVec 32 := Scalar.remsi arg0 c4_i32
  let c11_i32 : BitVec 32 := 11#32
  ![v0.toNat, 11]
def k0_off74 (i : grid0.Coords) : Fin 4 → Nat :=
  let arg0 : BitVec 32 := BitVec.ofNat 32 (i 0).val
  let c4_i32 : BitVec 32 := 4#32
  let v0 : BitVec 32 := Scalar.remsi arg0 c4_i32
  let c22_i32 : BitVec 32 := 22#32
  let c0_i32_66 : BitVec 32 := 0#32
  let c0_i32_67 : BitVec 32 := 0#32
  ![v0.toNat, 22, 0, 0]
def k0_off75 (i : grid0.Coords) : Fin 3 → Nat :=
  let c22_i32_68 : BitVec 32 := 22#32
  let arg0 : BitVec 32 := BitVec.ofNat 32 (i 0).val
  let c256_i32_65 : BitVec 32 := 256#32
  let v74 : BitVec 32 := Scalar.muli arg0 c256_i32_65
  let c0_i32_69 : BitVec 32 := 0#32
  ![22, v74.toNat, 0]
def k0_off76 (i : grid0.Coords) : Fin 2 → Nat :=
  let arg0 : BitVec 32 := BitVec.ofNat 32 (i 0).val
  let c4_i32 : BitVec 32 := 4#32
  let v0 : BitVec 32 := Scalar.remsi arg0 c4_i32
  let c12_i32_71 : BitVec 32 := 12#32
  ![v0.toNat, 12]
def k0_off77 (i : grid0.Coords) : Fin 4 → Nat :=
  let arg0 : BitVec 32 := BitVec.ofNat 32 (i 0).val
  let c4_i32 : BitVec 32 := 4#32
  let v0 : BitVec 32 := Scalar.remsi arg0 c4_i32
  let c24_i32 : BitVec 32 := 24#32
  let c0_i32_72 : BitVec 32 := 0#32
  let c0_i32_73 : BitVec 32 := 0#32
  ![v0.toNat, 24, 0, 0]
def k0_off78 (i : grid0.Coords) : Fin 3 → Nat :=
  let c24_i32_74 : BitVec 32 := 24#32
  let arg0 : BitVec 32 := BitVec.ofNat 32 (i 0).val
  let c256_i32_70 : BitVec 32 := 256#32
  let v80 : BitVec 32 := Scalar.muli arg0 c256_i32_70
  let c0_i32_75 : BitVec 32 := 0#32
  ![24, v80.toNat, 0]
def k0_off79 (i : grid0.Coords) : Fin 4 → Nat :=
  let arg0 : BitVec 32 := BitVec.ofNat 32 (i 0).val
  let c4_i32 : BitVec 32 := 4#32
  let v0 : BitVec 32 := Scalar.remsi arg0 c4_i32
  let v86 : Index := Scalar.indexCast v0
  let c0 : Index := 0#32
  let c0_76 : Index := 0#32
  let c0_77 : Index := 0#32
  ![v86.toNat, 0, 0, 0]
def k0_cond3 (i : grid0.Coords) : BitVec 1 :=
  let arg0 : BitVec 32 := BitVec.ofNat 32 (i 0).val
  let c4_i32_82 : BitVec 32 := 4#32
  let v98 : BitVec 1 := Scalar.cmpi .sge arg0 c4_i32_82
  let v99 : BitVec 32 := Scalar.extui v98
  let c0_i32_83 : BitVec 32 := 0#32
  let v100 : BitVec 1 := Scalar.cmpi .ne v99 c0_i32_83
  v100

def k0_off80 (i : grid0.Coords) : Fin 2 → Nat :=
  let arg0 : BitVec 32 := BitVec.ofNat 32 (i 0).val
  let c4_i32 : BitVec 32 := 4#32
  let v0 : BitVec 32 := Scalar.remsi arg0 c4_i32
  let c0_i32_184 : BitVec 32 := 0#32
  ![v0.toNat, 0]
def k0_off81 (i : grid0.Coords) : Fin 3 → Nat :=
  let c0_i32_185 : BitVec 32 := 0#32
  let arg0 : BitVec 32 := BitVec.ofNat 32 (i 0).val
  let c4_i32_182 : BitVec 32 := 4#32
  let v190 : BitVec 32 := Scalar.subi arg0 c4_i32_182
  let c256_i32_183 : BitVec 32 := 256#32
  let v191 : BitVec 32 := Scalar.muli v190 c256_i32_183
  let c0_i32_186 : BitVec 32 := 0#32
  ![0, v191.toNat, 0]
def k0_off82 (i : grid0.Coords) : Fin 4 → Nat :=
  let arg0 : BitVec 32 := BitVec.ofNat 32 (i 0).val
  let c4_i32 : BitVec 32 := 4#32
  let v0 : BitVec 32 := Scalar.remsi arg0 c4_i32
  let c0_i32_187 : BitVec 32 := 0#32
  let c0_i32_188 : BitVec 32 := 0#32
  let c0_i32_189 : BitVec 32 := 0#32
  ![v0.toNat, 0, 0, 0]
def k0_off83 (i : grid0.Coords) : Fin 2 → Nat :=
  let arg0 : BitVec 32 := BitVec.ofNat 32 (i 0).val
  let c4_i32 : BitVec 32 := 4#32
  let v0 : BitVec 32 := Scalar.remsi arg0 c4_i32
  let c1_i32_191 : BitVec 32 := 1#32
  ![v0.toNat, 1]
def k0_off84 (i : grid0.Coords) : Fin 3 → Nat :=
  let c2_i32_192 : BitVec 32 := 2#32
  let arg0 : BitVec 32 := BitVec.ofNat 32 (i 0).val
  let c4_i32_182 : BitVec 32 := 4#32
  let v190 : BitVec 32 := Scalar.subi arg0 c4_i32_182
  let c256_i32_190 : BitVec 32 := 256#32
  let v197 : BitVec 32 := Scalar.muli v190 c256_i32_190
  let c0_i32_193 : BitVec 32 := 0#32
  ![2, v197.toNat, 0]
def k0_off85 (i : grid0.Coords) : Fin 4 → Nat :=
  let arg0 : BitVec 32 := BitVec.ofNat 32 (i 0).val
  let c4_i32 : BitVec 32 := 4#32
  let v0 : BitVec 32 := Scalar.remsi arg0 c4_i32
  let c2_i32_194 : BitVec 32 := 2#32
  let c0_i32_195 : BitVec 32 := 0#32
  let c0_i32_196 : BitVec 32 := 0#32
  ![v0.toNat, 2, 0, 0]
def k0_off86 (i : grid0.Coords) : Fin 2 → Nat :=
  let arg0 : BitVec 32 := BitVec.ofNat 32 (i 0).val
  let c4_i32 : BitVec 32 := 4#32
  let v0 : BitVec 32 := Scalar.remsi arg0 c4_i32
  let c2_i32_198 : BitVec 32 := 2#32
  ![v0.toNat, 2]
def k0_off87 (i : grid0.Coords) : Fin 3 → Nat :=
  let c4_i32_199 : BitVec 32 := 4#32
  let arg0 : BitVec 32 := BitVec.ofNat 32 (i 0).val
  let c4_i32_182 : BitVec 32 := 4#32
  let v190 : BitVec 32 := Scalar.subi arg0 c4_i32_182
  let c256_i32_197 : BitVec 32 := 256#32
  let v203 : BitVec 32 := Scalar.muli v190 c256_i32_197
  let c0_i32_200 : BitVec 32 := 0#32
  ![4, v203.toNat, 0]
def k0_off88 (i : grid0.Coords) : Fin 4 → Nat :=
  let arg0 : BitVec 32 := BitVec.ofNat 32 (i 0).val
  let c4_i32 : BitVec 32 := 4#32
  let v0 : BitVec 32 := Scalar.remsi arg0 c4_i32
  let c4_i32_201 : BitVec 32 := 4#32
  let c0_i32_202 : BitVec 32 := 0#32
  let c0_i32_203 : BitVec 32 := 0#32
  ![v0.toNat, 4, 0, 0]
def k0_off89 (i : grid0.Coords) : Fin 2 → Nat :=
  let arg0 : BitVec 32 := BitVec.ofNat 32 (i 0).val
  let c4_i32 : BitVec 32 := 4#32
  let v0 : BitVec 32 := Scalar.remsi arg0 c4_i32
  let c3_i32_205 : BitVec 32 := 3#32
  ![v0.toNat, 3]
def k0_off90 (i : grid0.Coords) : Fin 3 → Nat :=
  let c6_i32_206 : BitVec 32 := 6#32
  let arg0 : BitVec 32 := BitVec.ofNat 32 (i 0).val
  let c4_i32_182 : BitVec 32 := 4#32
  let v190 : BitVec 32 := Scalar.subi arg0 c4_i32_182
  let c256_i32_204 : BitVec 32 := 256#32
  let v209 : BitVec 32 := Scalar.muli v190 c256_i32_204
  let c0_i32_207 : BitVec 32 := 0#32
  ![6, v209.toNat, 0]
def k0_off91 (i : grid0.Coords) : Fin 4 → Nat :=
  let arg0 : BitVec 32 := BitVec.ofNat 32 (i 0).val
  let c4_i32 : BitVec 32 := 4#32
  let v0 : BitVec 32 := Scalar.remsi arg0 c4_i32
  let c6_i32_208 : BitVec 32 := 6#32
  let c0_i32_209 : BitVec 32 := 0#32
  let c0_i32_210 : BitVec 32 := 0#32
  ![v0.toNat, 6, 0, 0]
def k0_off92 (i : grid0.Coords) : Fin 2 → Nat :=
  let arg0 : BitVec 32 := BitVec.ofNat 32 (i 0).val
  let c4_i32 : BitVec 32 := 4#32
  let v0 : BitVec 32 := Scalar.remsi arg0 c4_i32
  let c4_i32_212 : BitVec 32 := 4#32
  ![v0.toNat, 4]
def k0_off93 (i : grid0.Coords) : Fin 3 → Nat :=
  let c8_i32_213 : BitVec 32 := 8#32
  let arg0 : BitVec 32 := BitVec.ofNat 32 (i 0).val
  let c4_i32_182 : BitVec 32 := 4#32
  let v190 : BitVec 32 := Scalar.subi arg0 c4_i32_182
  let c256_i32_211 : BitVec 32 := 256#32
  let v215 : BitVec 32 := Scalar.muli v190 c256_i32_211
  let c0_i32_214 : BitVec 32 := 0#32
  ![8, v215.toNat, 0]
def k0_off94 (i : grid0.Coords) : Fin 4 → Nat :=
  let arg0 : BitVec 32 := BitVec.ofNat 32 (i 0).val
  let c4_i32 : BitVec 32 := 4#32
  let v0 : BitVec 32 := Scalar.remsi arg0 c4_i32
  let c8_i32_215 : BitVec 32 := 8#32
  let c0_i32_216 : BitVec 32 := 0#32
  let c0_i32_217 : BitVec 32 := 0#32
  ![v0.toNat, 8, 0, 0]
def k0_off95 (i : grid0.Coords) : Fin 2 → Nat :=
  let arg0 : BitVec 32 := BitVec.ofNat 32 (i 0).val
  let c4_i32 : BitVec 32 := 4#32
  let v0 : BitVec 32 := Scalar.remsi arg0 c4_i32
  let c5_i32_219 : BitVec 32 := 5#32
  ![v0.toNat, 5]
def k0_off96 (i : grid0.Coords) : Fin 3 → Nat :=
  let c10_i32_220 : BitVec 32 := 10#32
  let arg0 : BitVec 32 := BitVec.ofNat 32 (i 0).val
  let c4_i32_182 : BitVec 32 := 4#32
  let v190 : BitVec 32 := Scalar.subi arg0 c4_i32_182
  let c256_i32_218 : BitVec 32 := 256#32
  let v221 : BitVec 32 := Scalar.muli v190 c256_i32_218
  let c0_i32_221 : BitVec 32 := 0#32
  ![10, v221.toNat, 0]
def k0_off97 (i : grid0.Coords) : Fin 4 → Nat :=
  let arg0 : BitVec 32 := BitVec.ofNat 32 (i 0).val
  let c4_i32 : BitVec 32 := 4#32
  let v0 : BitVec 32 := Scalar.remsi arg0 c4_i32
  let c10_i32_222 : BitVec 32 := 10#32
  let c0_i32_223 : BitVec 32 := 0#32
  let c0_i32_224 : BitVec 32 := 0#32
  ![v0.toNat, 10, 0, 0]
def k0_off98 (i : grid0.Coords) : Fin 2 → Nat :=
  let arg0 : BitVec 32 := BitVec.ofNat 32 (i 0).val
  let c4_i32 : BitVec 32 := 4#32
  let v0 : BitVec 32 := Scalar.remsi arg0 c4_i32
  let c6_i32_226 : BitVec 32 := 6#32
  ![v0.toNat, 6]
def k0_off99 (i : grid0.Coords) : Fin 3 → Nat :=
  let c12_i32_227 : BitVec 32 := 12#32
  let arg0 : BitVec 32 := BitVec.ofNat 32 (i 0).val
  let c4_i32_182 : BitVec 32 := 4#32
  let v190 : BitVec 32 := Scalar.subi arg0 c4_i32_182
  let c256_i32_225 : BitVec 32 := 256#32
  let v227 : BitVec 32 := Scalar.muli v190 c256_i32_225
  let c0_i32_228 : BitVec 32 := 0#32
  ![12, v227.toNat, 0]
def k0_off100 (i : grid0.Coords) : Fin 4 → Nat :=
  let arg0 : BitVec 32 := BitVec.ofNat 32 (i 0).val
  let c4_i32 : BitVec 32 := 4#32
  let v0 : BitVec 32 := Scalar.remsi arg0 c4_i32
  let c12_i32_229 : BitVec 32 := 12#32
  let c0_i32_230 : BitVec 32 := 0#32
  let c0_i32_231 : BitVec 32 := 0#32
  ![v0.toNat, 12, 0, 0]
def k0_off101 (i : grid0.Coords) : Fin 2 → Nat :=
  let arg0 : BitVec 32 := BitVec.ofNat 32 (i 0).val
  let c4_i32 : BitVec 32 := 4#32
  let v0 : BitVec 32 := Scalar.remsi arg0 c4_i32
  let c7_i32_233 : BitVec 32 := 7#32
  ![v0.toNat, 7]
def k0_off102 (i : grid0.Coords) : Fin 3 → Nat :=
  let c14_i32_234 : BitVec 32 := 14#32
  let arg0 : BitVec 32 := BitVec.ofNat 32 (i 0).val
  let c4_i32_182 : BitVec 32 := 4#32
  let v190 : BitVec 32 := Scalar.subi arg0 c4_i32_182
  let c256_i32_232 : BitVec 32 := 256#32
  let v233 : BitVec 32 := Scalar.muli v190 c256_i32_232
  let c0_i32_235 : BitVec 32 := 0#32
  ![14, v233.toNat, 0]
def k0_off103 (i : grid0.Coords) : Fin 4 → Nat :=
  let arg0 : BitVec 32 := BitVec.ofNat 32 (i 0).val
  let c4_i32 : BitVec 32 := 4#32
  let v0 : BitVec 32 := Scalar.remsi arg0 c4_i32
  let c14_i32_236 : BitVec 32 := 14#32
  let c0_i32_237 : BitVec 32 := 0#32
  let c0_i32_238 : BitVec 32 := 0#32
  ![v0.toNat, 14, 0, 0]
def k0_off104 (i : grid0.Coords) : Fin 2 → Nat :=
  let arg0 : BitVec 32 := BitVec.ofNat 32 (i 0).val
  let c4_i32 : BitVec 32 := 4#32
  let v0 : BitVec 32 := Scalar.remsi arg0 c4_i32
  let c8_i32_240 : BitVec 32 := 8#32
  ![v0.toNat, 8]
def k0_off105 (i : grid0.Coords) : Fin 3 → Nat :=
  let c16_i32_241 : BitVec 32 := 16#32
  let arg0 : BitVec 32 := BitVec.ofNat 32 (i 0).val
  let c4_i32_182 : BitVec 32 := 4#32
  let v190 : BitVec 32 := Scalar.subi arg0 c4_i32_182
  let c256_i32_239 : BitVec 32 := 256#32
  let v239 : BitVec 32 := Scalar.muli v190 c256_i32_239
  let c0_i32_242 : BitVec 32 := 0#32
  ![16, v239.toNat, 0]
def k0_off106 (i : grid0.Coords) : Fin 4 → Nat :=
  let arg0 : BitVec 32 := BitVec.ofNat 32 (i 0).val
  let c4_i32 : BitVec 32 := 4#32
  let v0 : BitVec 32 := Scalar.remsi arg0 c4_i32
  let c16_i32_243 : BitVec 32 := 16#32
  let c0_i32_244 : BitVec 32 := 0#32
  let c0_i32_245 : BitVec 32 := 0#32
  ![v0.toNat, 16, 0, 0]
def k0_off107 (i : grid0.Coords) : Fin 2 → Nat :=
  let arg0 : BitVec 32 := BitVec.ofNat 32 (i 0).val
  let c4_i32 : BitVec 32 := 4#32
  let v0 : BitVec 32 := Scalar.remsi arg0 c4_i32
  let c9_i32_247 : BitVec 32 := 9#32
  ![v0.toNat, 9]
def k0_off108 (i : grid0.Coords) : Fin 3 → Nat :=
  let c18_i32_248 : BitVec 32 := 18#32
  let arg0 : BitVec 32 := BitVec.ofNat 32 (i 0).val
  let c4_i32_182 : BitVec 32 := 4#32
  let v190 : BitVec 32 := Scalar.subi arg0 c4_i32_182
  let c256_i32_246 : BitVec 32 := 256#32
  let v245 : BitVec 32 := Scalar.muli v190 c256_i32_246
  let c0_i32_249 : BitVec 32 := 0#32
  ![18, v245.toNat, 0]
def k0_off109 (i : grid0.Coords) : Fin 4 → Nat :=
  let arg0 : BitVec 32 := BitVec.ofNat 32 (i 0).val
  let c4_i32 : BitVec 32 := 4#32
  let v0 : BitVec 32 := Scalar.remsi arg0 c4_i32
  let c18_i32_250 : BitVec 32 := 18#32
  let c0_i32_251 : BitVec 32 := 0#32
  let c0_i32_252 : BitVec 32 := 0#32
  ![v0.toNat, 18, 0, 0]
def k0_off110 (i : grid0.Coords) : Fin 2 → Nat :=
  let arg0 : BitVec 32 := BitVec.ofNat 32 (i 0).val
  let c4_i32 : BitVec 32 := 4#32
  let v0 : BitVec 32 := Scalar.remsi arg0 c4_i32
  let c10_i32_254 : BitVec 32 := 10#32
  ![v0.toNat, 10]
def k0_off111 (i : grid0.Coords) : Fin 3 → Nat :=
  let c20_i32_255 : BitVec 32 := 20#32
  let arg0 : BitVec 32 := BitVec.ofNat 32 (i 0).val
  let c4_i32_182 : BitVec 32 := 4#32
  let v190 : BitVec 32 := Scalar.subi arg0 c4_i32_182
  let c256_i32_253 : BitVec 32 := 256#32
  let v251 : BitVec 32 := Scalar.muli v190 c256_i32_253
  let c0_i32_256 : BitVec 32 := 0#32
  ![20, v251.toNat, 0]
def k0_off112 (i : grid0.Coords) : Fin 4 → Nat :=
  let arg0 : BitVec 32 := BitVec.ofNat 32 (i 0).val
  let c4_i32 : BitVec 32 := 4#32
  let v0 : BitVec 32 := Scalar.remsi arg0 c4_i32
  let c20_i32_257 : BitVec 32 := 20#32
  let c0_i32_258 : BitVec 32 := 0#32
  let c0_i32_259 : BitVec 32 := 0#32
  ![v0.toNat, 20, 0, 0]
def k0_off113 (i : grid0.Coords) : Fin 2 → Nat :=
  let arg0 : BitVec 32 := BitVec.ofNat 32 (i 0).val
  let c4_i32 : BitVec 32 := 4#32
  let v0 : BitVec 32 := Scalar.remsi arg0 c4_i32
  let c11_i32_261 : BitVec 32 := 11#32
  ![v0.toNat, 11]
def k0_off114 (i : grid0.Coords) : Fin 3 → Nat :=
  let c22_i32_262 : BitVec 32 := 22#32
  let arg0 : BitVec 32 := BitVec.ofNat 32 (i 0).val
  let c4_i32_182 : BitVec 32 := 4#32
  let v190 : BitVec 32 := Scalar.subi arg0 c4_i32_182
  let c256_i32_260 : BitVec 32 := 256#32
  let v257 : BitVec 32 := Scalar.muli v190 c256_i32_260
  let c0_i32_263 : BitVec 32 := 0#32
  ![22, v257.toNat, 0]
def k0_off115 (i : grid0.Coords) : Fin 4 → Nat :=
  let arg0 : BitVec 32 := BitVec.ofNat 32 (i 0).val
  let c4_i32 : BitVec 32 := 4#32
  let v0 : BitVec 32 := Scalar.remsi arg0 c4_i32
  let c22_i32_264 : BitVec 32 := 22#32
  let c0_i32_265 : BitVec 32 := 0#32
  let c0_i32_266 : BitVec 32 := 0#32
  ![v0.toNat, 22, 0, 0]
def k0_off116 (i : grid0.Coords) : Fin 2 → Nat :=
  let arg0 : BitVec 32 := BitVec.ofNat 32 (i 0).val
  let c4_i32 : BitVec 32 := 4#32
  let v0 : BitVec 32 := Scalar.remsi arg0 c4_i32
  let c12_i32_268 : BitVec 32 := 12#32
  ![v0.toNat, 12]
def k0_off117 (i : grid0.Coords) : Fin 3 → Nat :=
  let c24_i32_269 : BitVec 32 := 24#32
  let arg0 : BitVec 32 := BitVec.ofNat 32 (i 0).val
  let c4_i32_182 : BitVec 32 := 4#32
  let v190 : BitVec 32 := Scalar.subi arg0 c4_i32_182
  let c256_i32_267 : BitVec 32 := 256#32
  let v263 : BitVec 32 := Scalar.muli v190 c256_i32_267
  let c0_i32_270 : BitVec 32 := 0#32
  ![24, v263.toNat, 0]
def k0_off118 (i : grid0.Coords) : Fin 4 → Nat :=
  let arg0 : BitVec 32 := BitVec.ofNat 32 (i 0).val
  let c4_i32 : BitVec 32 := 4#32
  let v0 : BitVec 32 := Scalar.remsi arg0 c4_i32
  let c24_i32_271 : BitVec 32 := 24#32
  let c0_i32_272 : BitVec 32 := 0#32
  let c0_i32_273 : BitVec 32 := 0#32
  ![v0.toNat, 24, 0, 0]
def k0_cond4 (i : grid0.Coords) : BitVec 1 :=
  let arg0 : BitVec 32 := BitVec.ofNat 32 (i 0).val
  let c63_i32 : BitVec 32 := 63#32
  let v187 : BitVec 1 := Scalar.cmpi .eq arg0 c63_i32
  let v188 : BitVec 32 := Scalar.extui v187
  let c0_i32_181 : BitVec 32 := 0#32
  let v189 : BitVec 1 := Scalar.cmpi .ne v188 c0_i32_181
  v189

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S26x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S26x16384x64 : Shape := ⟨3, ![26, 16384, 64]⟩
abbrev S26x64 : Shape := ⟨2, ![26, 64]⟩
abbrev S26 : Shape := ⟨1, ![26]⟩
abbrev S_ : Shape := ⟨0, ![]⟩
abbrev S26x1 : Shape := ⟨2, ![26, 1]⟩
abbrev S1 : Shape := ⟨1, ![1]⟩
abbrev S1x1 : Shape := ⟨2, ![1, 1]⟩
abbrev S26x1x64 : Shape := ⟨3, ![26, 1, 64]⟩
abbrev S26x1048576 : Shape := ⟨2, ![26, 1048576]⟩
abbrev S1048576x26 : Shape := ⟨2, ![1048576, 26]⟩
abbrev S26x26 : Shape := ⟨2, ![26, 26]⟩
abbrev S1x26 : Shape := ⟨2, ![1, 26]⟩

abbrev nBuf : Space → Nat
  | .hbm => 61
  | .vmem => 0
  | .smem => 0
  | _ => 0

abbrev bufTy : (tb : Table) → Fin (tcTables nBuf tb) → BufTy
  | .hbm, ⟨0, _⟩ => ⟨S26x16384x64, .f32⟩
  | .hbm, ⟨1, _⟩ => ⟨S26x64, .f32⟩
  | .hbm, ⟨2, _⟩ => ⟨S26, .i32⟩
  | .hbm, ⟨3, _⟩ => ⟨S_, .i32⟩
  | .hbm, ⟨4, _⟩ => ⟨S26, .i32⟩
  | .hbm, ⟨5, _⟩ => ⟨S26, .i1⟩
  | .hbm, ⟨6, _⟩ => ⟨S_, .i32⟩
  | .hbm, ⟨7, _⟩ => ⟨S26, .i32⟩
  | .hbm, ⟨8, _⟩ => ⟨S26, .i32⟩
  | .hbm, ⟨9, _⟩ => ⟨S26, .i32⟩
  | .hbm, ⟨10, _⟩ => ⟨S26x1, .i32⟩
  | .hbm, ⟨11, _⟩ => ⟨S1, .i32⟩
  | .hbm, ⟨12, _⟩ => ⟨S_, .i32⟩
  | .hbm, ⟨13, _⟩ => ⟨S26x1, .i32⟩
  | .hbm, ⟨14, _⟩ => ⟨S26x1, .i1⟩
  | .hbm, ⟨15, _⟩ => ⟨S1x1, .i32⟩
  | .hbm, ⟨16, _⟩ => ⟨S26x1, .i32⟩
  | .hbm, ⟨17, _⟩ => ⟨S26x1, .i1⟩
  | .hbm, ⟨18, _⟩ => ⟨S26x1, .i1⟩
  | .hbm, ⟨19, _⟩ => ⟨S_, .i1⟩
  | .hbm, ⟨20, _⟩ => ⟨S26, .i1⟩
  | .hbm, ⟨21, _⟩ => ⟨S26x64, .f32⟩
  | .hbm, ⟨22, _⟩ => ⟨S26x64, .i1⟩
  | .hbm, ⟨23, _⟩ => ⟨S_, .f32⟩
  | .hbm, ⟨24, _⟩ => ⟨S26x64, .f32⟩
  | .hbm, ⟨25, _⟩ => ⟨S26x64, .f32⟩
  | .hbm, ⟨26, _⟩ => ⟨S26x1x64, .f32⟩
  | .hbm, ⟨27, _⟩ => ⟨S26x16384x64, .f32⟩
  | .hbm, ⟨28, _⟩ => ⟨S26x16384x64, .f32⟩
  | .hbm, ⟨29, _⟩ => ⟨S26x1048576, .f32⟩
  | .hbm, ⟨30, _⟩ => ⟨S26x1048576, .f32⟩
  | .hbm, ⟨31, _⟩ => ⟨S_, .f32⟩
  | .hbm, ⟨32, _⟩ => ⟨S26, .f32⟩
  | .hbm, ⟨33, _⟩ => ⟨S26x1, .f32⟩
  | .hbm, ⟨34, _⟩ => ⟨S26x1, .f32⟩
  | .hbm, ⟨35, _⟩ => ⟨S_, .f32⟩
  | .hbm, ⟨36, _⟩ => ⟨S26x1, .f32⟩
  | .hbm, ⟨37, _⟩ => ⟨S26x1, .f32⟩
  | .hbm, ⟨38, _⟩ => ⟨S26x1048576, .f32⟩
  | .hbm, ⟨39, _⟩ => ⟨S26x1048576, .f32⟩
  | .hbm, ⟨40, _⟩ => ⟨S1048576x26, .f32⟩
  | .hbm, ⟨41, _⟩ => ⟨S26x26, .f32⟩
  | .hbm, ⟨42, _⟩ => ⟨S26, .i32⟩
  | .hbm, ⟨43, _⟩ => ⟨S26x1, .i32⟩
  | .hbm, ⟨44, _⟩ => ⟨S26, .i32⟩
  | .hbm, ⟨45, _⟩ => ⟨S1x26, .i32⟩
  | .hbm, ⟨46, _⟩ => ⟨S26x26, .i32⟩
  | .hbm, ⟨47, _⟩ => ⟨S26x26, .i32⟩
  | .hbm, ⟨48, _⟩ => ⟨S26x26, .i1⟩
  | .hbm, ⟨49, _⟩ => ⟨S_, .f32⟩
  | .hbm, ⟨50, _⟩ => ⟨S_, .f32⟩
  | .hbm, ⟨51, _⟩ => ⟨S26x26, .f32⟩
  | .hbm, ⟨52, _⟩ => ⟨S26x26, .f32⟩
  | .hbm, ⟨53, _⟩ => ⟨S26x26, .f32⟩
  | .hbm, ⟨54, _⟩ => ⟨S26x26, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S26x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_1 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_cst_3 : Ref sig .tc := ⟨.hbm, 59, rfl⟩
abbrev main_v25 : Ref sig .tc := ⟨.hbm, 60, rfl⟩

abbrev nD : Nat := 1
abbrev τ : Topo := Topo.v7x

variable {F : FTy → Type} [FloatOps F]
-- ==== Proof.IdealParts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl sl_add)
open Idealize.ShloMosaic.ValueIdx

variable {F : FTy → Type} [FloatOps F]

local notation "𝕄" => MT nD τ sig Unit (Elt F) ℕ (Pipeline.UD sig nD τ) ℕ

/-! ## The buffers and the cells, by name -/

/-- The argument left in HBM, the result left in HBM, the two slot buffers and the accumulator. -/
abbrev xM : Memref sig .tc .hbm S26x16384x64 .f32 := Memref.whole main_arg0
abbrev outM : Memref sig .tc .hbm S26x16384x64 .f32 := Memref.whole main_v0_0
abbrev ibM : Memref sig .tc .vmem S4x26x256x64 .f32 := Memref.whole cc0_scratch0
abbrev obM : Memref sig .tc .vmem S4x26x256x64 .f32 := Memref.whole cc0_scratch1
abbrev accM : Memref sig .tc .vmem S208x208 .f32 := Memref.whole cc0_scratch2

/-- Cell `(s, q)` of the incoming and of the outgoing copies. -/
def icell (s : Fin 4) (q : Fin 13) : DmaSem sig := ⟨2 + (13 * s.val + q.val), by show _ < 106; omega⟩
def ocell (s : Fin 4) (q : Fin 13) : DmaSem sig := ⟨54 + (13 * s.val + q.val), by show _ < 106; omega⟩

/-- The view of a cell array at an offset, as printed. -/
abbrev semAt (A : DmaSems sig S4x13) (o : Fin 2 → ℕ) (h : ∀ a, o a + S1x1.size a ≤ S4x13.size a) : DmaSem sig :=
  ((A.slice (Rect.unit (s := S4x13) o S1x1.size h)).squeeze S_ squeezes_S1x1_S_).sem

theorem semAt_in (s : Fin 4) (q : Fin 13) (h) : semAt cc0_scratch3 ![s.val, q.val] h = icell s q := by
  revert h; revert s q; decide
theorem semAt_out (s : Fin 4) (q : Fin 13) (h) : semAt cc0_scratch4 ![s.val, q.val] h = ocell s q := by
  revert h; revert s q; decide

/-- Two slabs of a slot buffer, and of an array in HBM, at an offset, as printed. -/
abbrev slabAt (M : Memref sig .tc .vmem S4x26x256x64 .f32) (o : Fin 4 → ℕ) (h : ∀ a, o a + S1x2x256x64.size a ≤ S4x26x256x64.size a) :
    Memref sig .tc .vmem S2x256x64 .f32 :=
  (M.slice (Rect.unit (s := S4x26x256x64) o S1x2x256x64.size h) (fun _ => rfl)).squeeze S2x256x64 squeezes_S1x2x256x64_S2x256x64
abbrev homeAt (M : Memref sig .tc .hbm S26x16384x64 .f32) (o : Fin 3 → ℕ) (h : ∀ a, o a + S2x256x64.size a ≤ S26x16384x64.size a) :
    Memref sig .tc .hbm S2x256x64 .f32 :=
  M.slice (Rect.unit (s := S26x16384x64) o S2x256x64.size h) (fun _ => rfl)

/-! ## Element sets -/

/-- The elements of slot `s` (part `q`: slabs `2q` and `2q + 1`). -/
def slotPart (s : Fin 4) (q : Fin 13) : Finset S4x26x256x64.Idx := Finset.univ.filter fun i => (i 0).val = s.val ∧ (i 1).val / 2 = q.val
def slotAll (s : Fin 4) : Finset S4x26x256x64.Idx := Finset.univ.filter fun i => (i 0).val = s.val
/-- The elements of part `q` of row block `k` of an array in HBM. -/
def homePart (k : ℕ) (q : Fin 13) : Finset S26x16384x64.Idx := Finset.univ.filter fun i => (i 1).val / 256 = k ∧ (i 0).val / 2 = q.val

theorem slab_mem (s : Fin 4) (q : Fin 13) (h) (i : S4x26x256x64.Idx) :
    i ∈ (Rect.unit (s := S4x26x256x64) ![s.val, 2 * q.val, 0, 0] S1x2x256x64.size h).set ↔ i ∈ slotPart s q := by
  rw [Rect.mem_set_unit]
  simp only [slotPart, Finset.mem_filter, Finset.mem_univ, true_and]
  have h2 : (i 2).val < 256 := (i 2).isLt
  have h3 : (i 3).val < 64 := (i 3).isLt
  constructor
  · intro H
    have H0 : s.val ≤ (i 0).val ∧ (i 0).val < s.val + 1 := H 0
    have H1 : 2 * q.val ≤ (i 1).val ∧ (i 1).val < 2 * q.val + 2 := H 1
    omega
  · rintro ⟨H0, H1⟩ a
    fin_cases a
    · show s.val ≤ (i 0).val ∧ (i 0).val < s.val + 1; omega
    · show 2 * q.val ≤ (i 1).val ∧ (i 1).val < 2 * q.val + 2; omega
    · show 0 ≤ (i 2).val ∧ (i 2).val < 0 + 256; omega
    · show 0 ≤ (i 3).val ∧ (i 3).val < 0 + 64; omega

theorem home_mem (k : ℕ) (q : Fin 13) (h) (i : S26x16384x64.Idx) :
    i ∈ (Rect.unit (s := S26x16384x64) ![2 * q.val, 256 * k, 0] S2x256x64.size h).set ↔ i ∈ homePart k q := by
  rw [Rect.mem_set_unit]
  simp only [homePart, Finset.mem_filter, Finset.mem_univ, true_and]
  have h3 : (i 2).val < 64 := (i 2).isLt
  constructor
  · intro H
    have H0 : 2 * q.val ≤ (i 0).val ∧ (i 0).val < 2 * q.val + 2 := H 0
    have H1 : 256 * k ≤ (i 1).val ∧ (i 1).val < 256 * k + 256 := H 1
    omega
  · rintro ⟨H0, H1⟩ a
    fin_cases a
    · show 2 * q.val ≤ (i 0).val ∧ (i 0).val < 2 * q.val + 2; omega
    · show 256 * k ≤ (i 1).val ∧ (i 1).val < 256 * k + 256; omega
    · show 0 ≤ (i 2).val ∧ (i 2).val < 0 + 64; omega

theorem slabAt_set_in (s : Fin 4) (q : Fin 13) (h) : (slabAt ibM ![s.val, 2 * q.val, 0, 0] h).view.set = slotPart s q := by
  refine (View.set_reshape _ _).trans ((View.set_slice_whole _ _).trans ?_)
  ext i; exact slab_mem s q h i
theorem slabAt_set_out (s : Fin 4) (q : Fin 13) (h) : (slabAt obM ![s.val, 2 * q.val, 0, 0] h).view.set = slotPart s q := by
  refine (View.set_reshape _ _).trans ((View.set_slice_whole _ _).trans ?_)
  ext i; exact slab_mem s q h i
theorem homeAt_set_in (k : ℕ) (q : Fin 13) (h) : (homeAt xM ![2 * q.val, 256 * k, 0] h).view.set = homePart k q := by
  refine (View.set_slice_whole _ _).trans ?_
  ext i; exact home_mem k q h i
theorem homeAt_set_out (k : ℕ) (q : Fin 13) (h) : (homeAt outM ![2 * q.val, 256 * k, 0] h).view.set = homePart k q := by
  refine (View.set_slice_whole _ _).trans ?_
  ext i; exact home_mem k q h i

/-- Where the printed views put an index of the copied block: two slabs of a slot, and of a row block in HBM. -/
theorem slab_idx (s : Fin 4) (q : Fin 13) (h) (a : Fin 2) (b : Fin 256) (d : Fin 64) :
    (Rect.unit (s := S4x26x256x64) ![s.val, 2 * q.val, 0, 0] S1x2x256x64.size h).emb (Shape.reshapeEquiv (s := S1x2x256x64) (s' := S2x256x64) rfl (ix3 a b d))
      = ix4 s (⟨2 * q.val + a.val, by omega⟩ : Fin 26) b d := by
  refine (congrArg _ (reshapeEquiv_ix3_1abc (a := 2) (b := 256) (c := 64) rfl a b d)).trans ?_
  funext e; apply Fin.ext
  rw [Rect.emb_apply]
  fin_cases e
  · show s.val + 1 * 0 = s.val; omega
  · show 2 * q.val + 1 * a.val = _; rw [Nat.one_mul]
  · show 0 + 1 * b.val = b.val; omega
  · show 0 + 1 * d.val = d.val; omega
theorem home_idx (k : ℕ) (hk : k < 64) (q : Fin 13) (h) (a : Fin 2) (b : Fin 256) (d : Fin 64) :
    (Rect.unit (s := S26x16384x64) ![2 * q.val, 256 * k, 0] S2x256x64.size h).emb (ix3 a b d)
      = ix3 (⟨2 * q.val + a.val, by omega⟩ : Fin 26) (⟨256 * k + b.val, by omega⟩ : Fin 16384) d := by
  funext e; apply Fin.ext
  rw [Rect.emb_apply]
  fin_cases e
  · show 2 * q.val + 1 * a.val = _; rw [Nat.one_mul]
  · show 256 * k + 1 * b.val = _; rw [Nat.one_mul]
  · show 0 + 1 * d.val = d.val; omega

/-- What a slot buffer holds of row block `k` of the argument, whichever slot is looked at, and of the result. -/
def slotOf (X : FVec F S26x16384x64 .f32) (k : ℕ) : FVec F S4x26x256x64 .f32 :=
  fun i => X (ix3 (i 1) (Fin.ofNat 16384 (256 * k + (i 2).val)) (i 3))

/-- A copy in lands the argument's rows. -/
theorem landed_in (X : FVec F S26x16384x64 .f32) (fd : FVec F S4x26x256x64 .f32) (s : Fin 4) (k : ℕ) (hk : k < 64) (q : Fin 13) (h h')
    (i : S4x26x256x64.Idx) (hi : i ∈ slotPart s q) :
    View.write (Elt F) (slabAt ibM ![s.val, 2 * q.val, 0, 0] h).view fd (ReadAs.same.apply ((homeAt xM ![2 * q.val, 256 * k, 0] h').view.read (Elt F) X)) Finset.univ i
      = slotOf X k i := by
  obtain ⟨x, -, rfl⟩ := Finset.mem_map.mp ((slabAt_set_in s q h).symm ▸ hi)
  obtain ⟨a, b, d, rfl⟩ : ∃ (a : Fin 2) (b : Fin 256) (d : Fin 64), x = ix3 a b d := ⟨_, _, _, eq_ix3 x⟩
  rw [View.write_emb_of_mem _ _ (Finset.mem_univ _)]
  have e : (slabAt ibM ![s.val, 2 * q.val, 0, 0] h).view.emb (ix3 a b d) = ix4 s (⟨2 * q.val + a.val, by omega⟩ : Fin 26) b d := slab_idx s q h a b d
  refine Eq.trans (b := X ((homeAt xM ![2 * q.val, 256 * k, 0] h').view.emb (ix3 a b d))) rfl ?_
  rw [e]
  refine congrArg X ((home_idx k hk q h' a b d).trans ?_)
  refine congrArg (fun y => ix3 _ y d) (Fin.ext ?_)
  exact (Nat.mod_eq_of_lt (by show 256 * k + b.val < 16384; omega)).symm
/-- A copy out lands the slot's rows. -/
theorem landed_out (O : FVec F S26x16384x64 .f32) (fd : FVec F S26x16384x64 .f32) (s : Fin 4) (k : ℕ) (hk : k < 64) (q : Fin 13) (h h')
    (i : S26x16384x64.Idx) (hi : i ∈ homePart k q) :
    View.write (Elt F) (homeAt outM ![2 * q.val, 256 * k, 0] h').view fd (ReadAs.same.apply ((slabAt obM ![s.val, 2 * q.val, 0, 0] h).view.read (Elt F) (slotOf O k))) Finset.univ i
      = O i := by
  obtain ⟨x, -, rfl⟩ := Finset.mem_map.mp ((homeAt_set_out k q h').symm ▸ hi)
  obtain ⟨a, b, d, rfl⟩ : ∃ (a : Fin 2) (b : Fin 256) (d : Fin 64), x = ix3 a b d := ⟨_, _, _, eq_ix3 x⟩
  rw [View.write_emb_of_mem _ _ (Finset.mem_univ _)]
  have e : (slabAt obM ![s.val, 2 * q.val, 0, 0] h).view.emb (ix3 a b d) = ix4 s (⟨2 * q.val + a.val, by omega⟩ : Fin 26) b d := slab_idx s q h a b d
  refine Eq.trans (b := slotOf O k ((slabAt obM ![s.val, 2 * q.val, 0, 0] h).view.emb (ix3 a b d))) rfl ?_
  rw [e]
  refine congrArg O (Eq.trans ?_ (home_idx k hk q h' a b d).symm)
  refine congrArg (fun y => ix3 _ y d) (Fin.ext ?_)
  exact (Nat.mod_eq_of_lt (by show 256 * k + b.val < 16384; omega))

/-! ## The states of one part of a slot -/

/-- The argument's locations, as the points-to assertions name them. -/
abbrev xL (c : Dev nD) : Loc nD τ sig := (c : Thread nD τ).loc main_arg0
abbrev oL (c : Dev nD) : Loc nD τ sig := (c : Thread nD τ).loc main_v0_0
abbrev ibL (c : Dev nD) : Loc nD τ sig := (c : Thread nD τ).loc cc0_scratch0
abbrev obL (c : Dev nD) : Loc nD τ sig := (c : Thread nD τ).loc cc0_scratch1

/-- The amount one copy credits its cell. -/
abbrev amt : ℕ := (slabAt ibM ![0, 0, 0, 0] inb_S4x26x256x64_S1x2x256x64_0_0_0_0).view.dmaCredit

/-- Part `q` of slot `s` of the incoming buffer at rest: its cell at zero, its elements at anything, its share of the argument. -/
def iFree (c : Dev nD) (X : FVec F S26x16384x64 .f32) (sh : Fin 4 → Fin 13 → PosShare TreeShare) (s : Fin 4) (q : Fin 13) : sProp 𝕄 :=
  iprop(semVal ((c : Thread nD τ), SemLoc.dma (icell s q)) 0 ∗ (∃ f, ibL c ↦[slotPart s q]{fullShare} f) ∗ (xL c ↦{sh s q} X))
/-- … holding row block `k` of the argument. -/
def iDone (c : Dev nD) (X : FVec F S26x16384x64 .f32) (sh : Fin 4 → Fin 13 → PosShare TreeShare) (s : Fin 4) (k : ℕ) (q : Fin 13) : sProp 𝕄 :=
  iprop(semVal ((c : Thread nD τ), SemLoc.dma (icell s q)) 0 ∗ (ibL c ↦[slotPart s q]{fullShare} slotOf X k) ∗ (xL c ↦{sh s q} X))
/-- … with row block `k` on its way. -/
def iFly (c : Dev nD) (X : FVec F S26x16384x64 .f32) (sh : Fin 4 → Fin 13 → PosShare TreeShare) (s : Fin 4) (k : ℕ) (q : Fin 13) : sProp 𝕄 :=
  iprop(Transfers.Flight countersEmb (c : Thread nD τ) (SemLoc.dma (icell s q)) () amt
      iprop((ibL c ↦[slotPart s q]{fullShare} slotOf X k) ∗ (xL c ↦[homePart k q]{sh s q} X))
    ∗ (xL c ↦[Finset.univ \ homePart k q]{sh s q} X))

/-- The weakest precondition of a piece of the body, outside any call. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- Starting one copy in. -/
theorem enq_in (c : Dev nD) (X : FVec F S26x16384x64 .f32) (sh : Fin 4 → Fin 13 → PosShare TreeShare) (s : Fin 4) (k : ℕ) (hk : k < 64) (q : Fin 13)
    {oc : Fin 2 → ℕ} {os : Fin 3 → ℕ} {od : Fin 4 → ℕ} {hc hs hd} {p1 p2 p3}
    (ec : oc = ![s.val, q.val]) (es : os = ![2 * q.val, 256 * k, 0]) (ed : od = ![s.val, 2 * q.val, 0, 0])
    {Q : PUnit → sProp 𝕄} :
    iFree c X sh s q ⊢ iprop((iFly c X sh s k q -∗ Q ⟨⟩)
      -∗ WP c (Prog.lift (.enqueueDma (homeAt xM os hs) (.here (slabAt ibM od hd)) (.dma (semAt cc0_scratch3 oc hc)) p1 p2 p3)) Q) := by
  subst ec es ed
  have hcell := semAt_in s q hc
  unfold iFree iFly
  iintro ⟨Hc, ⟨%f, Hd⟩, Hx⟩ Hk
  ihave Hx' := (pointsTo_split_subset (Finset.subset_univ (homePart k q))).1 $$ Hx
  icases Hx' with ⟨Hx, Hr⟩
  have key := Transfers.wp_dmaLocal countersEmb Variants.none (c : Thread nD τ) none (defs := defs₀ (F := F)) (Q := Q)
    (src := homeAt xM ![2 * q.val, 256 * k, 0] hs) (via := ReadAs.same) (dst := slabAt ibM ![s.val, 2 * q.val, 0, 0] hd)
    (sm := .dma (semAt cc0_scratch3 ![s.val, q.val] hc)) (hsrc := p1) (hdst := p2) (hsem := p3) (k := Prog.ret) (q := sh s q) (fs := X) (fd := f)
    () amt rfl (by decide) (Sd := slotPart s q) (slabAt_set_in s q hd).le
  rw [homeAt_set_in] at key
  have hland : (ibL c ↦[slotPart s q]{fullShare} _ : sProp 𝕄) = ibL c ↦[slotPart s q]{fullShare} slotOf X k :=
    pointsTo_congr (landed_in X f s k hk q hd hs)
  iapply key $$ [Hc Hd Hx]
  · isplitl [Hx]; · iexact Hx
    isplitl [Hd]; · iexact Hd
    rw [hcell]; iexact Hc
  iintro Hf
  iapply (le_wp_ret _ _ _ _ _)
  iapply Hk
  isplitr [Hr]
  · rw [hcell]
    rw [← hland]
    iexact Hf
  · iexact Hr

/-- The core's record of its waits, whatever it has recorded. -/
def OW (c : Dev nD) : sProp 𝕄 := iprop(∃ W, owes (c : Thread nD τ) (0 : CellTallies nD τ sig Unit) W)

/-- Waiting for one copy in. -/
theorem wait_in (c : Dev nD) (X : FVec F S26x16384x64 .f32) (sh : Fin 4 → Fin 13 → PosShare TreeShare) (s : Fin 4) (k : ℕ) (q : Fin 13)
    {oc : Fin 2 → ℕ} {os : Fin 3 → ℕ} {od : Fin 4 → ℕ} {hc hs hd} {p1 p2}
    (ec : oc = ![s.val, q.val]) {Q : PUnit → sProp 𝕄} :
    iprop(iFly c X sh s k q ∗ OW c) ⊢ iprop((iprop(iDone c X sh s k q ∗ OW c) -∗ Q ⟨⟩)
      -∗ WP c (Prog.lift (.waitDma2 (semAt cc0_scratch3 oc hc) (homeAt xM os hs) (slabAt ibM od hd) p1 p2)) Q) := by
  subst ec
  have hcell := semAt_in s q hc
  unfold iFly iDone OW
  iintro ⟨⟨Hf, Hr⟩, ⟨%W, HW⟩⟩ Hk
  have key := Transfers.wp_waitLocal countersEmb Variants.none (c : Thread nD τ) none (defs := defs₀ (F := F)) (Q := Q)
    (sem := semAt cc0_scratch3 ![s.val, q.val] hc) (srcw := homeAt xM os hs) (dstw := slabAt ibM od hd) (hsrc := p1) (hdst := p2) (k := Prog.ret)
    () (N := amt) rfl (W := W) (D := iprop((ibL c ↦[slotPart s q]{fullShare} slotOf X k) ∗ (xL c ↦[homePart k q]{sh s q} X)))
  iapply key $$ [Hf HW]
  · rw [hcell]
    isplitl [Hf]; · iexact Hf
    iexact HW
  iintro ⟨⟨Hd, Hx⟩, Hc, HW⟩
  iapply (le_wp_ret _ _ _ _ _)
  iapply Hk
  rw [hcell]
  isplitr [HW]
  · isplitl [Hc]; · iexact Hc
    isplitl [Hd]; · iexact Hd
    iapply (pointsTo_split_subset (Finset.subset_univ (homePart k q))).2
    isplitl [Hx]; · iexact Hx
    iexact Hr
  · iexists _; iexact HW

/-- What one copy out credits its cell with. -/
def amtO : ℕ := (homeAt outM ![0, 0, 0] (by decide)).view.dmaCredit

/-- A part of a slot of the output ring with nothing on its way … -/
def oFree (c : Dev nD) (s : Fin 4) (q : Fin 13) : sProp 𝕄 :=
  iprop(semVal ((c : Thread nD τ), SemLoc.dma (ocell s q)) 0 ∗ (∃ f : FVec F S4x26x256x64 .f32, obL c ↦[slotPart s q]{fullShare} f))
/-- … holding row block `k` of `O`, the place it goes to at hand … -/
def oReady (c : Dev nD) (O : FVec F S26x16384x64 .f32) (s : Fin 4) (k : ℕ) (q : Fin 13) : sProp 𝕄 :=
  iprop(semVal ((c : Thread nD τ), SemLoc.dma (ocell s q)) 0 ∗ (obL c ↦[slotPart s q]{fullShare} slotOf O k)
    ∗ (∃ f, oL c ↦[homePart k q]{fullShare} f))
/-- … with row block `k` of `O` on its way … -/
def oFly (c : Dev nD) (O : FVec F S26x16384x64 .f32) (s : Fin 4) (k : ℕ) (q : Fin 13) : sProp 𝕄 :=
  Transfers.Flight countersEmb (c : Thread nD τ) (SemLoc.dma (ocell s q)) () amtO
      iprop((oL c ↦[homePart k q]{fullShare} O) ∗ (obL c ↦[slotPart s q]{fullShare} slotOf O k))
/-- … and with that block arrived. -/
def oDone (c : Dev nD) (O : FVec F S26x16384x64 .f32) (s : Fin 4) (k : ℕ) (q : Fin 13) : sProp 𝕄 :=
  iprop(oFree c s q ∗ (oL c ↦[homePart k q]{fullShare} O))

/-- Starting one copy out. -/
theorem enq_out (c : Dev nD) (O : FVec F S26x16384x64 .f32) (s : Fin 4) (k : ℕ) (hk : k < 64) (q : Fin 13)
    {oc : Fin 2 → ℕ} {os : Fin 3 → ℕ} {od : Fin 4 → ℕ} {hc hs hd} {p1 p2 p3}
    (ec : oc = ![s.val, q.val]) (es : os = ![2 * q.val, 256 * k, 0]) (ed : od = ![s.val, 2 * q.val, 0, 0])
    {Q : PUnit → sProp 𝕄} :
    oReady c O s k q ⊢ iprop((oFly c O s k q -∗ Q ⟨⟩)
      -∗ WP c (Prog.lift (.enqueueDma (slabAt obM od hd) (.here (homeAt outM os hs)) (.dma (semAt cc0_scratch4 oc hc)) p1 p2 p3)) Q) := by
  subst ec es ed
  have hcell := semAt_out s q hc
  unfold oReady oFly
  iintro ⟨Hc, Hs, ⟨%f, Hd⟩⟩ Hk
  have key := Transfers.wp_dmaLocal countersEmb Variants.none (c : Thread nD τ) none (defs := defs₀ (F := F)) (Q := Q)
    (src := slabAt obM ![s.val, 2 * q.val, 0, 0] hd) (via := ReadAs.same) (dst := homeAt outM ![2 * q.val, 256 * k, 0] hs)
    (sm := .dma (semAt cc0_scratch4 ![s.val, q.val] hc)) (hsrc := p1) (hdst := p2) (hsem := p3) (k := Prog.ret) (q := fullShare) (fs := slotOf O k) (fd := f)
    () amtO rfl (by decide) (Sd := homePart k q) (homeAt_set_out k q hs).le
  rw [slabAt_set_out] at key
  have hland : (oL c ↦[homePart k q]{fullShare} _ : sProp 𝕄) = oL c ↦[homePart k q]{fullShare} O :=
    pointsTo_congr (landed_out O f s k hk q hd hs)
  iapply key $$ [Hc Hd Hs]
  · isplitl [Hs]; · iexact Hs
    isplitl [Hd]; · iexact Hd
    rw [hcell]; iexact Hc
  iintro Hf
  iapply (le_wp_ret _ _ _ _ _)
  iapply Hk
  rw [hcell]
  rw [← hland]
  iexact Hf

/-- Waiting for one copy out. -/
theorem wait_out (c : Dev nD) (O : FVec F S26x16384x64 .f32) (s : Fin 4) (k : ℕ) (q : Fin 13)
    {oc : Fin 2 → ℕ} {os : Fin 3 → ℕ} {od : Fin 4 → ℕ} {hc hs hd} {p1 p2}
    (ec : oc = ![s.val, q.val]) {Q : PUnit → sProp 𝕄} :
    iprop(oFly c O s k q ∗ OW c) ⊢ iprop((iprop(oDone c O s k q ∗ OW c) -∗ Q ⟨⟩)
      -∗ WP c (Prog.lift (.waitDma2 (semAt cc0_scratch4 oc hc) (slabAt obM od hd) (homeAt outM os hs) p1 p2)) Q) := by
  subst ec
  have hcell := semAt_out s q hc
  unfold oFly oDone oFree OW
  iintro ⟨Hf, ⟨%W, HW⟩⟩ Hk
  have key := Transfers.wp_waitLocal countersEmb Variants.none (c : Thread nD τ) none (defs := defs₀ (F := F)) (Q := Q)
    (sem := semAt cc0_scratch4 ![s.val, q.val] hc) (srcw := slabAt obM od hd) (dstw := homeAt outM os hs) (hsrc := p1) (hdst := p2) (k := Prog.ret)
    () (N := amtO) rfl (W := W) (D := iprop((oL c ↦[homePart k q]{fullShare} O) ∗ (obL c ↦[slotPart s q]{fullShare} slotOf O k)))
  iapply key $$ [Hf HW]
  · rw [hcell]
    isplitl [Hf]; · iexact Hf
    iexact HW
  iintro ⟨⟨Hd, Hx⟩, Hc, HW⟩
  iapply (le_wp_ret _ _ _ _ _)
  iapply Hk
  rw [hcell]
  isplitr [HW]
  · isplitr [Hd]
    · isplitl [Hc]; · iexact Hc
      iexists _; iexact Hx
    · iexact Hd
  · iexists _; iexact HW

/-! ## Several parts, some of them done -/

/-- The first `j` parts in state `B`, the others in state `A`. -/
def Mix {n : ℕ} (A B : Fin n → sProp 𝕄) (j : ℕ) : sProp 𝕄 := bigSep Finset.univ fun q : Fin n => if q.val < j then B q else A q

theorem Mix_zero {n : ℕ} (A B : Fin n → sProp 𝕄) : Mix A B 0 = bigSep Finset.univ A := by
  unfold Mix; exact bigSep_congr fun q _ => if_neg (Nat.not_lt_zero _)
theorem Mix_all {n : ℕ} (A B : Fin n → sProp 𝕄) : Mix A B n = bigSep Finset.univ B := by
  unfold Mix; exact bigSep_congr fun q _ => if_pos q.isLt

/-- The next part taken out, in its new state put back. -/
theorem Mix_step {n : ℕ} (A B : Fin n → sProp 𝕄) (q : Fin n) : Mix A B q.val ⊢ iprop(A q ∗ (B q -∗ Mix A B (q.val + 1))) := by
  have h : ∀ Φ : Fin n → sProp 𝕄, bigSep Finset.univ Φ = iprop(Φ q ∗ bigSep (Finset.univ.erase q) Φ) := fun Φ => by
    rw [show iprop(Φ q ∗ bigSep (Finset.univ.erase q) Φ) = bigSep (insert q (Finset.univ.erase q)) Φ from
      (BI.bigSep_insert (Finset.notMem_erase q _)).symm, Finset.insert_erase (Finset.mem_univ q)]
  unfold Mix
  rw [h, h]
  rw [if_neg (lt_irrefl _), if_pos (Nat.lt_succ_self _)]
  rw [bigSep_congr (s := Finset.univ.erase q) (Φ := fun r : Fin n => if r.val < q.val + 1 then B r else A r)
    (Ψ := fun r : Fin n => if r.val < q.val then B r else A r) fun r hr => by
      have : r.val ≠ q.val := fun e => Finset.ne_of_mem_erase hr (Fin.ext e)
      by_cases hlt : r.val < q.val
      · rw [if_pos hlt, if_pos (by omega)]
      · rw [if_neg hlt, if_neg (by omega)]]
  iintro ⟨HA, Hr⟩
  isplitl [HA]; · iexact HA
  iintro HB
  isplitl [HB]; · iexact HB
  iexact Hr

/-- Starting the next copy in of a block's thirteen. -/
theorem enq_in_step (c : Dev nD) (X : FVec F S26x16384x64 .f32) (sh : Fin 4 → Fin 13 → PosShare TreeShare) (s : Fin 4) (k : ℕ) (hk : k < 64)
    (j : ℕ) (hj : j < 13) {oc : Fin 2 → ℕ} {os : Fin 3 → ℕ} {od : Fin 4 → ℕ} {hc hs hd} {p1 p2 p3}
    (ec : oc = ![s.val, j]) (es : os = ![2 * j, 256 * k, 0]) (ed : od = ![s.val, 2 * j, 0, 0]) {Q : PUnit → sProp 𝕄} :
    Mix (iFree c X sh s) (iFly c X sh s k) j ⊢ iprop((Mix (iFree c X sh s) (iFly c X sh s k) (j + 1) -∗ Q ⟨⟩)
      -∗ WP c (Prog.lift (.enqueueDma (homeAt xM os hs) (.here (slabAt ibM od hd)) (.dma (semAt cc0_scratch3 oc hc)) p1 p2 p3)) Q) := by
  iintro H Hk
  ihave H := (Mix_step (iFree c X sh s) (iFly c X sh s k) ⟨j, hj⟩) $$ H
  icases H with ⟨HA, HB⟩
  iapply (enq_in c X sh s k hk ⟨j, hj⟩ ec es ed) $$ HA
  iintro HA
  iapply Hk
  iapply HB
  iexact HA

/-- Waiting for the next copy in of a block's thirteen. -/
theorem wait_in_step (c : Dev nD) (X : FVec F S26x16384x64 .f32) (sh : Fin 4 → Fin 13 → PosShare TreeShare) (s : Fin 4) (k : ℕ)
    (j : ℕ) (hj : j < 13) {oc : Fin 2 → ℕ} {os : Fin 3 → ℕ} {od : Fin 4 → ℕ} {hc hs hd} {p1 p2}
    (ec : oc = ![s.val, j]) {Q : PUnit → sProp 𝕄} :
    iprop(Mix (iFly c X sh s k) (iDone c X sh s k) j ∗ OW c) ⊢ iprop((iprop(Mix (iFly c X sh s k) (iDone c X sh s k) (j + 1) ∗ OW c) -∗ Q ⟨⟩)
      -∗ WP c (Prog.lift (.waitDma2 (semAt cc0_scratch3 oc hc) (homeAt xM os hs) (slabAt ibM od hd) p1 p2)) Q) := by
  iintro ⟨H, HO⟩ Hk
  ihave H := (Mix_step (iFly c X sh s k) (iDone c X sh s k) ⟨j, hj⟩) $$ H
  icases H with ⟨HA, HB⟩
  iapply (wait_in c X sh s k ⟨j, hj⟩ ec) $$ [HA HO]
  · isplitl [HA]; · iexact HA
    iexact HO
  iintro ⟨HA, HO⟩
  iapply Hk
  isplitr [HO]
  · iapply HB
    iexact HA
  · iexact HO

/-- Starting the next copy out of a block's thirteen. -/
theorem enq_out_step (c : Dev nD) (O : FVec F S26x16384x64 .f32) (s : Fin 4) (k : ℕ) (hk : k < 64)
    (j : ℕ) (hj : j < 13) {oc : Fin 2 → ℕ} {os : Fin 3 → ℕ} {od : Fin 4 → ℕ} {hc hs hd} {p1 p2 p3}
    (ec : oc = ![s.val, j]) (es : os = ![2 * j, 256 * k, 0]) (ed : od = ![s.val, 2 * j, 0, 0]) {Q : PUnit → sProp 𝕄} :
    Mix (oReady c O s k) (oFly c O s k) j ⊢ iprop((Mix (oReady c O s k) (oFly c O s k) (j + 1) -∗ Q ⟨⟩)
      -∗ WP c (Prog.lift (.enqueueDma (slabAt obM od hd) (.here (homeAt outM os hs)) (.dma (semAt cc0_scratch4 oc hc)) p1 p2 p3)) Q) := by
  iintro H Hk
  ihave H := (Mix_step (oReady c O s k) (oFly c O s k) ⟨j, hj⟩) $$ H
  icases H with ⟨HA, HB⟩
  iapply (enq_out c O s k hk ⟨j, hj⟩ ec es ed) $$ HA
  iintro HA
  iapply Hk
  iapply HB
  iexact HA

/-- Waiting for the next copy out of several, the `r`-th of which is part `part r` of the slot `slot r`, on its way with row block `blk r`. -/
theorem wait_out_step {n : ℕ} (c : Dev nD) (O : FVec F S26x16384x64 .f32) (slot : Fin n → Fin 4) (blk : Fin n → ℕ) (part : Fin n → Fin 13)
    (j : ℕ) (hj : j < n) {oc : Fin 2 → ℕ} {os : Fin 3 → ℕ} {od : Fin 4 → ℕ} {hc hs hd} {p1 p2}
    (ec : oc = ![(slot ⟨j, hj⟩).val, (part ⟨j, hj⟩).val]) {Q : PUnit → sProp 𝕄} :
    iprop(Mix (fun r => oFly c O (slot r) (blk r) (part r)) (fun r => oDone c O (slot r) (blk r) (part r)) j ∗ OW c)
    ⊢ iprop((iprop(Mix (fun r => oFly c O (slot r) (blk r) (part r)) (fun r => oDone c O (slot r) (blk r) (part r)) (j + 1) ∗ OW c) -∗ Q ⟨⟩)
      -∗ WP c (Prog.lift (.waitDma2 (semAt cc0_scratch4 oc hc) (slabAt obM od hd) (homeAt outM os hs) p1 p2)) Q) := by
  iintro ⟨H, HO⟩ Hk
  ihave H := (Mix_step (fun r => oFly c O (slot r) (blk r) (part r)) (fun r => oDone c O (slot r) (blk r) (part r)) ⟨j, hj⟩) $$ H
  icases H with ⟨HA, HB⟩
  iapply (wait_out c O (slot ⟨j, hj⟩) (blk ⟨j, hj⟩) (part ⟨j, hj⟩) ec) $$ [HA HO]
  · isplitl [HA]; · iexact HA
    iexact HO
  iintro ⟨HA, HO⟩
  iapply Hk
  isplitr [HO]
  · iapply HB
    iexact HA
  · iexact HO

end Cert.KernelIdeal.Hand
-- ==== Proof.IdealSlots.lean ====
module

public import proofs.«01_k».proof.Proof.IdealParts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## A slot and its thirteen parts -/

/-- Two parts of a slot share no element. -/
theorem slotPart_disj (s : Fin 4) (q q' : Fin 13) (h : q ≠ q') : Disjoint (slotPart s q) (slotPart s q') := by
  refine Finset.disjoint_left.mpr fun i hi hi' => h (Fin.ext ?_)
  simp only [slotPart, Finset.mem_filter, Finset.mem_univ, true_and] at hi hi'
  omega
/-- The thirteen parts make up the slot. -/
theorem slotPart_cover (s : Fin 4) (i : S4x26x256x64.Idx) : (∃ q, i ∈ slotPart s q) ↔ i ∈ slotAll s := by
  simp only [slotPart, slotAll, Finset.mem_filter, Finset.mem_univ, true_and]
  have h1 : (i 1).val < 26 := (i 1).isLt
  constructor
  · rintro ⟨q, h, -⟩; exact h
  · intro h; exact ⟨⟨(i 1).val / 2, by omega⟩, h, rfl⟩

/-- A set of elements held whole is the sets that make it up held. -/
theorem held_parts {n : ℕ} {ℓ : Loc nD τ sig} (I : Fin n → Finset (Idx ℓ)) (S : Finset (Idx ℓ)) (hd : ∀ q q', q ≠ q' → Disjoint (I q) (I q'))
    (hc : ∀ i, (∃ q, i ∈ I q) ↔ i ∈ S) (f : Buf (Elt F) ℓ) :
    (ℓ ↦[S]{fullShare} f : sProp 𝕄) = bigSep Finset.univ fun q => ℓ ↦[I q]{fullShare} f :=
  Ring.pointsTo_sub_blocks I hd S (by ext i; rw [Finset.mem_biUnion]; simp only [Finset.mem_univ, true_and]; exact hc i) f
/-- The sets that make it up, each held at something, are the set held at something. -/
theorem held_join {n : ℕ} {ℓ : Loc nD τ sig} (I : Fin n → Finset (Idx ℓ)) (S : Finset (Idx ℓ)) (hd : ∀ q q', q ≠ q' → Disjoint (I q) (I q'))
    (hc : ∀ i, (∃ q, i ∈ I q) ↔ i ∈ S) (f₀ : Buf (Elt F) ℓ) :
    bigSep Finset.univ (fun q => iprop(∃ f, ℓ ↦[I q]{fullShare} f)) ⊢ (iprop(∃ g, ℓ ↦[S]{fullShare} g) : sProp 𝕄) :=
  Ring.pointsTo_sub_blocks_join_exists I hd S (by ext i; rw [Finset.mem_biUnion]; simp only [Finset.mem_univ, true_and]; exact hc i) f₀

/-- A slot held whole is its thirteen parts held. -/
theorem slot_in_parts (c : Dev nD) (s : Fin 4) (f : FVec F S4x26x256x64 .f32) :
    (ibL c ↦[slotAll s]{fullShare} f : sProp 𝕄) = bigSep Finset.univ fun q => ibL c ↦[slotPart s q]{fullShare} f :=
  held_parts (ℓ := ibL c) (slotPart s) (slotAll s) (slotPart_disj s) (slotPart_cover s) f
theorem slot_out_parts (c : Dev nD) (s : Fin 4) (f : FVec F S4x26x256x64 .f32) :
    (obL c ↦[slotAll s]{fullShare} f : sProp 𝕄) = bigSep Finset.univ fun q => obL c ↦[slotPart s q]{fullShare} f :=
  held_parts (ℓ := obL c) (slotPart s) (slotAll s) (slotPart_disj s) (slotPart_cover s) f

/-- A slot in which a block has arrived, opened as a whole; closed again, the slot is at rest. -/
theorem inDone_open (c : Dev nD) (X : FVec F S26x16384x64 .f32) (sh : Fin 4 → Fin 13 → PosShare TreeShare) (s : Fin 4) (k : ℕ) :
    bigSep Finset.univ (iDone c X sh s k) ⊢ iprop((ibL c ↦[slotAll s]{fullShare} slotOf X k)
      ∗ ((ibL c ↦[slotAll s]{fullShare} slotOf X k) -∗ bigSep Finset.univ (iFree c X sh s))) := by
  have e : bigSep Finset.univ (iDone c X sh s k) = iprop(bigSep Finset.univ (fun q => (semVal ((c : Thread nD τ), SemLoc.dma (icell s q)) 0 : sProp 𝕄))
      ∗ (ibL c ↦[slotAll s]{fullShare} slotOf X k) ∗ bigSep Finset.univ (fun q => (xL c ↦{sh s q} X : sProp 𝕄))) := by
    rw [slot_in_parts, ← bigSep_sep', ← bigSep_sep']; rfl
  have m : bigSep Finset.univ (iDone c X sh s k) ⊢ bigSep Finset.univ (iFree c X sh s) := bigSep_mono fun q _ => by
    show iDone c X sh s k q ⊢ iFree c X sh s q
    unfold iDone iFree
    iintro ⟨H1, H2, H3⟩
    isplitl [H1]; · iexact H1
    isplitl [H2]; · iexists _; iexact H2
    iexact H3
  rw [e] at m ⊢
  iintro ⟨H1, H2, H3⟩
  isplitl [H2]
  · iexact H2
  · iintro H2
    iapply m
    isplitl [H1]; · iexact H1
    isplitl [H2]; · iexact H2
    iexact H3

/-- A slot of the output ring at rest, opened as a whole; closed again holding a block, its parts are ready to go. -/
theorem outFree_open (c : Dev nD) (O : FVec F S26x16384x64 .f32) (s : Fin 4) (k : ℕ) :
    bigSep Finset.univ (oFree (F := F) c s) ⊢ iprop((∃ f : FVec F S4x26x256x64 .f32, obL c ↦[slotAll s]{fullShare} f)
      ∗ (iprop((obL c ↦[slotAll s]{fullShare} slotOf O k) ∗ bigSep Finset.univ (fun q => iprop(∃ f : FVec F S26x16384x64 .f32, oL c ↦[homePart k q]{fullShare} f)))
          -∗ bigSep Finset.univ (oReady c O s k))) := by
  have e : bigSep Finset.univ (oFree (F := F) c s) = iprop(bigSep Finset.univ (fun q => (semVal ((c : Thread nD τ), SemLoc.dma (ocell s q)) 0 : sProp 𝕄))
      ∗ bigSep Finset.univ (fun q => iprop(∃ f : FVec F S4x26x256x64 .f32, obL c ↦[slotPart s q]{fullShare} f))) := by
    rw [← bigSep_sep']; rfl
  have e' : bigSep Finset.univ (oReady c O s k) = iprop(bigSep Finset.univ (fun q => (semVal ((c : Thread nD τ), SemLoc.dma (ocell s q)) 0 : sProp 𝕄))
      ∗ (obL c ↦[slotAll s]{fullShare} slotOf O k)
      ∗ bigSep Finset.univ (fun q => iprop(∃ f : FVec F S26x16384x64 .f32, oL c ↦[homePart k q]{fullShare} f))) := by
    rw [slot_out_parts, ← bigSep_sep', ← bigSep_sep']; rfl
  have j : bigSep Finset.univ (fun q => iprop(∃ f : FVec F S4x26x256x64 .f32, obL c ↦[slotPart s q]{fullShare} f))
      ⊢ (iprop(∃ f : FVec F S4x26x256x64 .f32, obL c ↦[slotAll s]{fullShare} f) : sProp 𝕄) :=
    held_join (ℓ := obL c) (slotPart s) (slotAll s) (slotPart_disj s) (slotPart_cover s) (slotOf O k)
  rw [e, e']
  iintro ⟨H1, H2⟩
  isplitl [H2]
  · iapply j; iexact H2
  · iintro ⟨H2, H3⟩
    isplitl [H1]; · iexact H1
    isplitl [H2]; · iexact H2
    iexact H3

/-! ## Loads and stores -/

/-- Row block `k` of an array, as one slot holds it. -/
def blockOf (X : FVec F S26x16384x64 .f32) (k : ℕ) : FVec F S1x26x256x64 .f32 :=
  fun y => X (ix3 (y 1) (Fin.ofNat 16384 (256 * k + (y 2).val)) (y 3))

theorem slot_mem (s : Fin 4) (h) (i : S4x26x256x64.Idx) :
    i ∈ (Rect.unit (s := S4x26x256x64) ![s.val, 0, 0, 0] S1x26x256x64.size h).set ↔ i ∈ slotAll s := by
  rw [Rect.mem_set_unit]
  simp only [slotAll, Finset.mem_filter, Finset.mem_univ, true_and]
  have h1 : (i 1).val < 26 := (i 1).isLt
  have h2 : (i 2).val < 256 := (i 2).isLt
  have h3 : (i 3).val < 64 := (i 3).isLt
  constructor
  · intro H
    have H0 : s.val ≤ (i 0).val ∧ (i 0).val < s.val + 1 := H 0
    omega
  · intro H0 a
    fin_cases a
    · show s.val ≤ (i 0).val ∧ (i 0).val < s.val + 1; omega
    · show 0 ≤ (i 1).val ∧ (i 1).val < 0 + 26; omega
    · show 0 ≤ (i 2).val ∧ (i 2).val < 0 + 256; omega
    · show 0 ≤ (i 3).val ∧ (i 3).val < 0 + 64; omega

theorem slot_emb (s : Fin 4) (h) (y : S1x26x256x64.Idx) :
    (Rect.unit (s := S4x26x256x64) ![s.val, 0, 0, 0] S1x26x256x64.size h).emb y = ix4 s (y 1 : Fin 26) (y 2 : Fin 256) (y 3 : Fin 64) := by
  funext e; apply Fin.ext
  rw [Rect.emb_apply]
  have h0 : (y 0).val < 1 := (y 0).isLt
  fin_cases e
  · show s.val + 1 * (y 0).val = s.val; omega
  · show 0 + 1 * (y 1).val = (y 1).val; omega
  · show 0 + 1 * (y 2).val = (y 2).val; omega
  · show 0 + 1 * (y 3).val = (y 3).val; omega

/-- Loading a slot that holds row block `k`. -/
theorem load_slot (c : Dev nD) (X : FVec F S26x16384x64 .f32) (s : Fin 4) (k : ℕ) {o : Fin 4 → ℕ} {h hl} (ho : o = ![s.val, 0, 0, 0])
    {Q : Vec F S1x26x256x64 .f32 → sProp 𝕄} :
    (ibL c ↦[slotAll s]{fullShare} slotOf X k) ⊢ iprop(((ibL c ↦[slotAll s]{fullShare} slotOf X k) -∗ Q (blockOf X k))
      -∗ WP c (Prog.lift (.load ibM (Rect.unit (s := S4x26x256x64) o S1x26x256x64.size h).toLoadRect hl)) Q) := by
  subst ho
  have key := wp_load_rect Variants.none (c : Thread nD τ) none Set.univ (Γ := []) (defs := defs₀ (F := F)) (m := ibM)
    (r := Rect.unit (s := S4x26x256x64) ![s.val, 0, 0, 0] S1x26x256x64.size h) (hl := hl) (k := Prog.ret) (Q := Q) (S := slotAll s) (q := fullShare) (f := slotOf X k)
    (by
      refine ((View.set_slice_whole _ _).trans ?_).le
      ext i; exact slot_mem s h i)
  have hv : (ibM.access (Rect.unit (s := S4x26x256x64) ![s.val, 0, 0, 0] S1x26x256x64.size h)).read (Elt F) (slotOf X k) = blockOf X k := by
    funext y
    show slotOf X k ((Rect.unit (s := S4x26x256x64) ![s.val, 0, 0, 0] S1x26x256x64.size h).emb y) = _
    rw [slot_emb]; rfl
  rw [hv] at key
  iintro H Hk
  iapply key $$ H
  iintro H
  iapply (le_wp_ret _ _ _ _ _)
  iapply Hk
  iexact H

/-- Loading a slot of the output ring, whatever it holds. -/
theorem load_old (c : Dev nD) (s : Fin 4) (f : FVec F S4x26x256x64 .f32) {o : Fin 4 → ℕ} {h hl} (ho : o = ![s.val, 0, 0, 0])
    {Q : Vec F S1x26x256x64 .f32 → sProp 𝕄} :
    (obL c ↦[slotAll s]{fullShare} f) ⊢ iprop((∀ v, (obL c ↦[slotAll s]{fullShare} f) -∗ Q v)
      -∗ WP c (Prog.lift (.load obM (Rect.unit (s := S4x26x256x64) o S1x26x256x64.size h).toLoadRect hl)) Q) := by
  subst ho
  have key := wp_load_rect Variants.none (c : Thread nD τ) none Set.univ (Γ := []) (defs := defs₀ (F := F)) (m := obM)
    (r := Rect.unit (s := S4x26x256x64) ![s.val, 0, 0, 0] S1x26x256x64.size h) (hl := hl) (k := Prog.ret) (Q := Q) (S := slotAll s) (q := fullShare) (f := f)
    (by
      refine ((View.set_slice_whole _ _).trans ?_).le
      ext i; exact slot_mem s h i)
  iintro H Hk
  iapply key $$ H
  iintro H
  iapply (le_wp_ret _ _ _ _ _)
  iapply Hk
  iexact H

/-- Storing row block `k` of `O` into a slot of the output ring. -/
theorem store_slot (c : Dev nD) (O : FVec F S26x16384x64 .f32) (s : Fin 4) (k : ℕ) {o : Fin 4 → ℕ} {h hx hm} (ho : o = ![s.val, 0, 0, 0])
    (w : FVec F S1x26x256x64 .f32) (hw : w = blockOf O k) {Q : PUnit → sProp 𝕄} :
    (iprop(∃ f : FVec F S4x26x256x64 .f32, obL c ↦[slotAll s]{fullShare} f)) ⊢ iprop(((obL c ↦[slotAll s]{fullShare} slotOf O k) -∗ Q ⟨⟩)
      -∗ WP c (Prog.lift (.store obM (Rect.unit (s := S4x26x256x64) o S1x26x256x64.size h) w Finset.univ hx hm)) Q) := by
  subst ho hw
  have hset : (obM.access (Rect.unit (s := S4x26x256x64) ![s.val, 0, 0, 0] S1x26x256x64.size h)).set = slotAll s := by
    refine (View.set_slice_whole _ _).trans ?_
    ext i; exact slot_mem s h i
  iintro ⟨%f, H⟩ Hk
  have key := wp_store Variants.none (c : Thread nD τ) none Set.univ (Γ := []) (defs := defs₀ (F := F)) (m := obM)
    (r := Rect.unit (s := S4x26x256x64) ![s.val, 0, 0, 0] S1x26x256x64.size h) (w := blockOf O k) (Mk := Finset.univ) (hx := hx) (hm := hm) (k := Prog.ret) (Q := Q) (S := slotAll s) (f := f)
    ((View.setOn_subset_set _ _).trans hset.le)
  have hv : (obL c ↦[slotAll s]{fullShare} ((obM.access (Rect.unit (s := S4x26x256x64) ![s.val, 0, 0, 0] S1x26x256x64.size h)).write (Elt F) f (blockOf O k) Finset.univ) : sProp 𝕄)
      = obL c ↦[slotAll s]{fullShare} slotOf O k := by
    refine pointsTo_congr fun i hi => ?_
    obtain ⟨y, -, rfl⟩ := Finset.mem_map.mp (hset.symm ▸ hi)
    rw [View.write_emb_of_mem _ _ (Finset.mem_univ _)]
    have e : (obM.access (Rect.unit (s := S4x26x256x64) ![s.val, 0, 0, 0] S1x26x256x64.size h)).emb y = ix4 s (y 1 : Fin 26) (y 2 : Fin 256) (y 3 : Fin 64) := slot_emb s h y
    rw [e]; rfl
  iapply key $$ H
  iintro H
  iapply (le_wp_ret _ _ _ _ _)
  iapply Hk
  rw [← hv]
  iexact H

/-- The accumulator's location. -/
abbrev aL (c : Dev nD) : Loc nD τ sig := (c : Thread nD τ).loc cc0_scratch2

/-- Loading the accumulator. -/
theorem load_acc (c : Dev nD) (f : FVec F S208x208 .f32) {h hl} {Q : Vec F S208x208 .f32 → sProp 𝕄} :
    (aL c ↦{fullShare} f) ⊢ iprop(((aL c ↦{fullShare} f) -∗ Q f)
      -∗ WP c (α := Vec F S208x208 .f32) (Prog.lift (.load accM (Rect.unit (s := S208x208) ![0, 0] S208x208.size h).toLoadRect hl)) Q) := by
  have key := wp_load Variants.none (c : Thread nD τ) none Set.univ (Γ := []) (defs := defs₀ (F := F)) (m := accM)
    (r := (Rect.unit (s := S208x208) ![0, 0] S208x208.size h).toLoadRect) (hl := hl) (k := Prog.ret) (Q := Q) (S := Finset.univ) (q := fullShare) (f := f)
    (Finset.subset_univ _)
  have hv : accM.view.readAt (Elt F) (Rect.unit (s := S208x208) ![0, 0] S208x208.size h).toLoadRect f = f :=
    Memref.readAt_unit_zero (Elt F) cc0_scratch2 (by funext a; fin_cases a <;> rfl) h f
  rw [hv] at key
  iintro H Hk
  iapply key $$ H
  iintro H
  iapply (le_wp_ret _ _ _ _ _)
  iapply Hk
  iexact H

/-- Storing the accumulator. -/
theorem store_acc (c : Dev nD) (f w : FVec F S208x208 .f32) {h hx hm} {Q : PUnit → sProp 𝕄} :
    (aL c ↦{fullShare} f) ⊢ iprop(((aL c ↦{fullShare} w) -∗ Q ⟨⟩)
      -∗ WP c (Prog.lift (.store accM (Rect.unit (s := S208x208) ![0, 0] S208x208.size h) w Finset.univ hx hm)) Q) := by
  have key := wp_store Variants.none (c : Thread nD τ) none Set.univ (Γ := []) (defs := defs₀ (F := F)) (m := accM)
    (r := Rect.unit (s := S208x208) ![0, 0] S208x208.size h) (w := w) (Mk := Finset.univ) (hx := hx) (hm := hm) (k := Prog.ret) (Q := Q) (S := Finset.univ) (f := f)
    (Finset.subset_univ _)
  have hv : (accM.access (Rect.unit (s := S208x208) ![0, 0] S208x208.size h)).write (Elt F) f w Finset.univ = w :=
    Memref.write_access_unit_zero_univ (Elt F) cc0_scratch2 (by funext a; fin_cases a <;> rfl) h f w
  rw [hv] at key
  iintro H Hk
  iapply key $$ H
  iintro H
  iapply (le_wp_ret _ _ _ _ _)
  iapply Hk
  iexact H

/-- A load of a buffer's own sizes, held at a value, reads the value. -/
theorem load_owns {cs : CoreSpace} {sh : Shape} {e : EltTy} (c : Dev nD) (a : Memref sig .tc cs sh e) (q : PosShare TreeShare) (Y : sh.Idx → Elt F e)
    {o : Fin sh.rank → ℕ} {h : ∀ a, o a + sh.size a ≤ sh.size a} {hl} {Q : (sh.Idx → Elt F e) → sProp 𝕄} :
    (owns (c : Thread nD τ) a q Y : sProp 𝕄) ⊢ iprop(((owns (c : Thread nD τ) a q Y : sProp 𝕄) -∗ Q Y)
      -∗ WP c (α := sh.Idx → Elt F e) (Prog.lift (.load a (Rect.unit (s := sh) o sh.size h).toLoadRect hl)) Q) := by
  unfold owns
  iintro ⟨%f, %hf, H⟩ Hk
  have key := wp_load Variants.none (c : Thread nD τ) none Set.univ (Γ := []) (defs := defs₀ (F := F)) (m := a)
    (r := (Rect.unit (s := sh) o sh.size h).toLoadRect) (hl := hl) (k := Prog.ret) (Q := Q) (S := a.view.set) (q := q) (f := f)
    (View.setOn_subset_set _ _)
  have hv : a.view.readAt (Elt F) (Rect.unit (s := sh) o sh.size h).toLoadRect f = a.view.read (Elt F) f := by
    funext y
    exact congrArg (a.view.read (Elt F) f) (funext fun b => Fin.ext (by
      show o b + 1 * (y b).val = (y b).val
      have := h b; omega))
  rw [hv] at key
  iapply key $$ H
  iintro H
  iapply (le_wp_ret _ _ _ _ _)
  subst hf
  iapply Hk
  iexists f
  isplitr [H]; · ipureintro; rfl
  iexact H

/-- A store over a buffer's own sizes leaves what is stored. -/
theorem store_owns {cs : CoreSpace} {sh : Shape} {e : EltTy} (c : Dev nD) (a : Memref sig .tc cs sh e) (Y w : sh.Idx → Elt F e)
    {o : Fin sh.rank → ℕ} {h : ∀ a, o a + sh.size a ≤ sh.size a} {hx hm} {Q : PUnit → sProp 𝕄} :
    (owns (c : Thread nD τ) a fullShare Y : sProp 𝕄) ⊢ iprop(((owns (c : Thread nD τ) a fullShare w : sProp 𝕄) -∗ Q ⟨⟩)
      -∗ WP c (Prog.lift (.store a (Rect.unit (s := sh) o sh.size h) w Finset.univ hx hm)) Q) := by
  unfold owns
  iintro ⟨%f, %hf, H⟩ Hk
  have hemb : ∀ y, (a.access (Rect.unit (s := sh) o sh.size h)).emb y = a.view.emb y := fun y =>
    congrArg a.view.emb (funext fun b => Fin.ext (by
      show o b + 1 * (y b).val = (y b).val
      have := h b; omega))
  have key := wp_store Variants.none (c : Thread nD τ) none Set.univ (Γ := []) (defs := defs₀ (F := F)) (m := a)
    (r := Rect.unit (s := sh) o sh.size h) (w := w) (Mk := Finset.univ) (hx := hx) (hm := hm) (k := Prog.ret) (Q := Q) (S := a.view.set) (f := f)
    (by
      intro i hi
      obtain ⟨y, -, rfl⟩ := Finset.mem_map.mp hi
      rw [hemb]; exact Finset.mem_map.mpr ⟨y, Finset.mem_univ _, rfl⟩)
  iapply key $$ H
  iintro H
  iapply (le_wp_ret _ _ _ _ _)
  iapply Hk
  iexists _
  isplitr [H]
  swap
  · iexact H
  ipureintro
  funext y
  have e := View.read_write_of_mem (v := a.access (Rect.unit (s := sh) o sh.size h)) f w (Finset.mem_univ y)
  simp only [View.read, hemb] at e ⊢
  exact e

end Cert.KernelIdeal.Hand
-- ==== Proof.IdealWalkIn.lean ====
module

public import proofs.«01_k».proof.Proof.IdealSlots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## The conditions, by the grid point -/

theorem cond1_iff : ∀ i : grid0.Coords, (Scalar.cmpi .ne (Scalar.extui (Scalar.cmpi .eq (BitVec.ofNat 32 (i 0).val) 0#32) : BitVec 32) 0#32 = 1#1) ↔ (i 0).val = 0 := by
  decide +kernel
theorem cond2_iff : ∀ i : grid0.Coords, k0_cond2 i = 1#1 ↔ (i 0).val + 2 < 64 := by decide +kernel
theorem cond3_iff : ∀ i : grid0.Coords, k0_cond3 i = 1#1 ↔ 4 ≤ (i 0).val := by decide +kernel
theorem cond4_iff : ∀ i : grid0.Coords, k0_cond4 i = 1#1 ↔ (i 0).val = 63 := by decide +kernel

theorem vec3_eq {a b d a' b' d' : ℕ} (h1 : a = a') (h2 : b = b') (h3 : d = d') : (![a, b, d] : Fin 3 → ℕ) = ![a', b', d'] := by
  rw [h1, h2, h3]

theorem vec2_eq {a b a' b' : ℕ} (h1 : a = a') (h2 : b = b') : (![a, b] : Fin 2 → ℕ) = ![a', b'] := by
  rw [h1, h2]

/-! ## A slot of the input ring, whole -/

section
variable (c : Dev nD) (X : FVec F S26x16384x64 .f32) (sh : Fin 4 → Fin 13 → PosShare TreeShare)

/-- A slot of the input ring at rest, with block `k` on its way, and with block `k` arrived. -/
def IFree (s : Fin 4) : sProp 𝕄 := bigSep Finset.univ (iFree c X sh s)
def IFly (s : Fin 4) (k : ℕ) : sProp 𝕄 := bigSep Finset.univ (iFly c X sh s k)
def IDone (s : Fin 4) (k : ℕ) : sProp 𝕄 := bigSep Finset.univ (iDone c X sh s k)

theorem IFree_eq (s : Fin 4) (k : ℕ) : IFree c X sh s = Mix (iFree c X sh s) (iFly c X sh s k) 0 := (Mix_zero _ _).symm
theorem IFly_eq (s : Fin 4) (k : ℕ) : IFly c X sh s k = Mix (iFree c X sh s) (iFly c X sh s k) 13 := (Mix_all _ _).symm
theorem IFly_eq' (s : Fin 4) (k : ℕ) : IFly c X sh s k = Mix (iFly c X sh s k) (iDone c X sh s k) 0 := (Mix_zero _ _).symm
theorem IDone_eq (s : Fin 4) (k : ℕ) : IDone c X sh s k = Mix (iFly c X sh s k) (iDone c X sh s k) 13 := (Mix_all _ _).symm
theorem IFly_close (s : Fin 4) (k : ℕ) : Mix (iFree c X sh s) (iFly c X sh s k) 13 ⊢ IFly c X sh s k := by rw [← IFly_eq]
theorem IFly_start (s : Fin 4) (k : ℕ) : IFly c X sh s k ⊢ Mix (iFly c X sh s k) (iDone c X sh s k) 0 := by rw [← IFly_eq']
theorem IDone_close (s : Fin 4) (k : ℕ) : Mix (iFly c X sh s k) (iDone c X sh s k) 13 ⊢ IDone c X sh s k := by rw [← IDone_eq]
/-- A slot a block has arrived in, opened as a whole; closed again it is at rest. -/
theorem IDone_open (s : Fin 4) (k : ℕ) : IDone c X sh s k ⊢ iprop((ibL c ↦[slotAll s]{fullShare} slotOf X k)
      ∗ ((ibL c ↦[slotAll s]{fullShare} slotOf X k) -∗ IFree c X sh s)) := inDone_open c X sh s k
end

/-! ## The parts of the body that move the input -/

section
variable (c : Dev nD) (i : grid0.Coords) (a2 : Memref sig .tc .vmem S26x1x64 .f32) (h2 : a2.IsWhole) (a4 : Memref sig .tc .vmem S1x1 .f32) (h4 : a4.IsWhole)
  (X : FVec F S26x16384x64 .f32) (sh : Fin 4 → Fin 13 → PosShare TreeShare)

/-- The first point: the accumulator cleared, the first three blocks started, three parts of the first block awaited. -/
theorem part28_first (hi : (i 0).val = 0) (s : Fin 4) (hs : s.val = (i 0).val % 4) (s2 : Fin 4) (hs2 : s2.val = ((i 0).val + 2) % 4) (k2 : ℕ) (hk2 : k2 = (i 0).val + 2)
    {Q : (Σ' (_ : BitVec 32) (_ : BitVec 32), BitVec 32) → sProp 𝕄} :
    iprop((∃ f : FVec F S208x208 .f32, aL c ↦{fullShare} f) ∗ IFree c X sh 0 ∗ IFree c X sh 1 ∗ IFree c X sh s2 ∗ OW c)
      ⊢ iprop((∀ r, iprop((aL c ↦{fullShare} k0_pay2) ∗ iprop(Mix (iFly c X sh 0 0) (iDone c X sh 0 0) 3 ∗ OW c) ∗ IFly c X sh 1 1 ∗ IFly c X sh s2 k2) -∗ Q r)
      -∗ WP c (k0_part28 i xM (Memref.isWhole_whole _) a2 h2 outM (Memref.isWhole_whole _) a4 h4 ibM (Memref.isWhole_whole _) obM (Memref.isWhole_whole _)
          accM (Memref.isWhole_whole _) cc0_scratch3 cc0_scratch4) Q) := by
  unfold k0_part28
  have e1 := (cond1_iff i).2 hi
  have e2 := (cond2_iff i).2 (by omega)
  simp only [dif_pos e1, dif_pos e2]
  unfold k0_part1 k0_part2 k0_part3 k0_part4 k0_part5 k0_part6 k0_part7 k0_part8 k0_part9
  simp only [bind_assoc, pure_bind, wp_bind]
  rw [IFree_eq c X sh 0 0, IFree_eq c X sh 1 1, IFree_eq c X sh s2 k2]
  iintro ⟨⟨%f, Ha⟩, H0, H1, H2, HO⟩ Hk
  iapply (load_acc c f) $$ Ha
  iintro Ha
  iapply (store_acc c f _) $$ Ha
  iintro Ha
  iterate 13
    iapply (enq_in_step c X sh 0 0 (by decide) _ ?hj ?ec ?es ?ed) $$ H0
    case hj => decide
    case ec => rfl
    case es => rfl
    case ed => rfl
    iintro H0
  iterate 13
    iapply (enq_in_step c X sh 1 1 (by decide) _ ?hj ?ec ?es ?ed) $$ H1
    case hj => decide
    case ec => rfl
    case es => rfl
    case ed => rfl
    iintro H1
  iterate 13
    iapply (enq_in_step c X sh s2 k2 (by omega) _ ?hj ?ec ?es ?ed) $$ H2
    case hj => decide
    case ec => rw [hs2]; exact ClosedOff.eq
    case es => exact ClosedOff.eq.trans (vec3_eq rfl (by omega) rfl)
    case ed => rw [hs2]; exact ClosedOff.eq
    iintro H2
  ihave H0 := (IFly_close c X sh 0 0) $$ H0
  ihave H0 := (IFly_start c X sh 0 0) $$ H0
  ihave H1 := (IFly_close c X sh 1 1) $$ H1
  ihave H2 := (IFly_close c X sh s2 k2) $$ H2
  icombine H0 HO as H
  iterate 3
    iapply (wait_in_step c X sh 0 0 _ ?hj ?ec) $$ H
    case hj => decide
    case ec => refine ClosedOff.eq.trans ?_; exact vec2_eq (by omega) rfl
    iintro H
  iapply (le_wp_ret _ _ _ _ _)
  iapply Hk
  isplitl [Ha]; · iexact Ha
  isplitl [H]; · iexact H
  isplitl [H1]; · iexact H1
  iexact H2

/-- A point that starts a block: block `k2` started, three parts of block `k` awaited. -/
theorem part28_mid (hi : (i 0).val ≠ 0) (hi' : (i 0).val + 2 < 64) (s : Fin 4) (hs : s.val = (i 0).val % 4) (k : ℕ) (s2 : Fin 4) (hs2 : s2.val = ((i 0).val + 2) % 4) (k2 : ℕ) (hk2 : k2 = (i 0).val + 2)
    {Q : (Σ' (_ : BitVec 32) (_ : BitVec 32), BitVec 32) → sProp 𝕄} :
    iprop(IFly c X sh s k ∗ IFree c X sh s2 ∗ OW c)
      ⊢ iprop((∀ r, iprop(iprop(Mix (iFly c X sh s k) (iDone c X sh s k) 3 ∗ OW c) ∗ IFly c X sh s2 k2) -∗ Q r)
      -∗ WP c (k0_part28 i xM (Memref.isWhole_whole _) a2 h2 outM (Memref.isWhole_whole _) a4 h4 ibM (Memref.isWhole_whole _) obM (Memref.isWhole_whole _)
          accM (Memref.isWhole_whole _) cc0_scratch3 cc0_scratch4) Q) := by
  unfold k0_part28
  have e1 := fun h => hi ((cond1_iff i).1 h)
  have e2 := (cond2_iff i).2 hi'
  simp only [dif_neg e1, dif_pos e2]
  unfold k0_part7 k0_part8 k0_part9
  simp only [bind_assoc, pure_bind, wp_bind]
  rw [IFree_eq c X sh s2 k2, IFly_eq' c X sh s k]
  iintro ⟨H0, H2, HO⟩ Hk
  iterate 13
    iapply (enq_in_step c X sh s2 k2 (by omega) _ ?hj ?ec ?es ?ed) $$ H2
    case hj => decide
    case ec => rw [hs2]; exact ClosedOff.eq
    case es => exact ClosedOff.eq.trans (vec3_eq rfl (by omega) rfl)
    case ed => rw [hs2]; exact ClosedOff.eq
    iintro H2
  ihave H2 := (IFly_close c X sh s2 k2) $$ H2
  icombine H0 HO as H
  iterate 3
    iapply (wait_in_step c X sh s k _ ?hj ?ec) $$ H
    case hj => decide
    case ec => rw [hs]; exact ClosedOff.eq
    iintro H
  iapply (le_wp_ret _ _ _ _ _)
  iapply Hk
  isplitl [H]; · iexact H
  iexact H2

/-- The last two points start no block. -/
theorem part28_last (hi' : ¬ (i 0).val + 2 < 64) (s : Fin 4) (hs : s.val = (i 0).val % 4) (k : ℕ)
    {Q : (Σ' (_ : BitVec 32) (_ : BitVec 32), BitVec 32) → sProp 𝕄} :
    iprop(IFly c X sh s k ∗ OW c)
      ⊢ iprop((∀ r, iprop(Mix (iFly c X sh s k) (iDone c X sh s k) 3 ∗ OW c) -∗ Q r)
      -∗ WP c (k0_part28 i xM (Memref.isWhole_whole _) a2 h2 outM (Memref.isWhole_whole _) a4 h4 ibM (Memref.isWhole_whole _) obM (Memref.isWhole_whole _)
          accM (Memref.isWhole_whole _) cc0_scratch3 cc0_scratch4) Q) := by
  unfold k0_part28
  have e1 : ¬ _ := fun h => absurd ((cond1_iff i).1 h) (by omega)
  have e2 := fun h => hi' ((cond2_iff i).1 h)
  simp only [dif_neg e1, dif_neg e2]
  simp only [bind_assoc, pure_bind, wp_bind]
  rw [IFly_eq' c X sh s k]
  iintro ⟨H0, HO⟩ Hk
  icombine H0 HO as H
  iterate 3
    iapply (wait_in_step c X sh s k _ ?hj ?ec) $$ H
    case hj => decide
    case ec => rw [hs]; exact ClosedOff.eq
    iintro H
  iapply (le_wp_ret _ _ _ _ _)
  iapply Hk
  iexact H

/-- Four more parts awaited. -/
theorem part29 (s : Fin 4) (hs : s.val = (i 0).val % 4) (k : ℕ) (w1 w2) {Q : PUnit → sProp 𝕄} :
    iprop(Mix (iFly c X sh s k) (iDone c X sh s k) 3 ∗ OW c) ⊢ iprop((iprop(Mix (iFly c X sh s k) (iDone c X sh s k) 7 ∗ OW c) -∗ Q ⟨⟩)
      -∗ WP c (k0_part29 i xM (Memref.isWhole_whole _) a2 h2 outM (Memref.isWhole_whole _) a4 h4 ibM (Memref.isWhole_whole _) obM (Memref.isWhole_whole _)
          accM (Memref.isWhole_whole _) cc0_scratch3 cc0_scratch4 w1 w2) Q) := by
  unfold k0_part29
  simp only [wp_bind]
  iintro H Hk
  iterate 4
    iapply (wait_in_step c X sh s k _ ?hj ?ec) $$ H
    case hj => decide
    case ec => rw [hs]; exact ClosedOff.eq
    iintro H
  iapply (le_wp_ret _ _ _ _ _)
  iapply Hk
  iexact H

/-- Four more parts awaited. -/
theorem part30 (s : Fin 4) (hs : s.val = (i 0).val % 4) (k : ℕ) (w1) {Q : PUnit → sProp 𝕄} :
    iprop(Mix (iFly c X sh s k) (iDone c X sh s k) 7 ∗ OW c) ⊢ iprop((iprop(Mix (iFly c X sh s k) (iDone c X sh s k) 11 ∗ OW c) -∗ Q ⟨⟩)
      -∗ WP c (k0_part30 i xM (Memref.isWhole_whole _) a2 h2 outM (Memref.isWhole_whole _) a4 h4 ibM (Memref.isWhole_whole _) obM (Memref.isWhole_whole _)
          accM (Memref.isWhole_whole _) cc0_scratch3 cc0_scratch4 w1) Q) := by
  unfold k0_part30
  simp only [wp_bind]
  iintro H Hk
  iterate 4
    iapply (wait_in_step c X sh s k _ ?hj ?ec) $$ H
    case hj => decide
    case ec => rw [hs]; exact ClosedOff.eq
    iintro H
  iapply (le_wp_ret _ _ _ _ _)
  iapply Hk
  iexact H

end

end Cert.KernelIdeal.Hand
-- ==== Proof.IdealWalkOut.lean ====
module

public import proofs.«01_k».proof.Proof.IdealWalkIn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## A slot of the output ring, whole -/

section
variable (c : Dev nD) (O : FVec F S26x16384x64 .f32)

/-- A slot of the output ring at rest, ready to send block `k`, with block `k` on its way. -/
def OFree (s : Fin 4) : sProp 𝕄 := bigSep Finset.univ (oFree (F := F) c s)
def OReady (s : Fin 4) (k : ℕ) : sProp 𝕄 := bigSep Finset.univ (oReady c O s k)
def OFly (s : Fin 4) (k : ℕ) : sProp 𝕄 := bigSep Finset.univ (oFly c O s k)
/-- The rows of block `k` of the result: not written yet, and holding `O`. -/
def HTodo (k : ℕ) : sProp 𝕄 := bigSep Finset.univ fun q => iprop(∃ f : FVec F S26x16384x64 .f32, oL c ↦[homePart k q]{fullShare} f)
def HDone (k : ℕ) : sProp 𝕄 := bigSep Finset.univ fun q => (oL c ↦[homePart k q]{fullShare} O : sProp 𝕄)

theorem OFly_start (s : Fin 4) (k : ℕ) : OFly c O s k ⊢ Mix (oFly c O s k) (oDone c O s k) 0 := by rw [Mix_zero]; exact .rfl
theorem OReady_start (s : Fin 4) (k : ℕ) : OReady c O s k ⊢ Mix (oReady c O s k) (oFly c O s k) 0 := by rw [Mix_zero]; exact .rfl
theorem OFly_close (s : Fin 4) (k : ℕ) : Mix (oReady c O s k) (oFly c O s k) 13 ⊢ OFly c O s k := by rw [Mix_all]; exact .rfl
theorem ODone_close (s : Fin 4) (k : ℕ) : Mix (oFly c O s k) (oDone c O s k) 13 ⊢ iprop(OFree (F := F) c s ∗ HDone c O k) := by
  rw [Mix_all]
  unfold OFree HDone
  rw [← bigSep_sep']; exact .rfl

/-- A slot of the output ring opened for a store, and what closes it: the slot holding block `k`, with the rows it goes to. -/
def OOpen (s : Fin 4) (k : ℕ) : sProp 𝕄 :=
  iprop((∃ f : FVec F S4x26x256x64 .f32, obL c ↦[slotAll s]{fullShare} f)
    ∗ (iprop((obL c ↦[slotAll s]{fullShare} slotOf O k) ∗ HTodo (F := F) c k) -∗ OReady c O s k))
theorem OFree_open (s : Fin 4) (k : ℕ) : OFree (F := F) c s ⊢ iprop((∃ f : FVec F S4x26x256x64 .f32, obL c ↦[slotAll s]{fullShare} f)
    ∗ (iprop((obL c ↦[slotAll s]{fullShare} slotOf O k) ∗ HTodo (F := F) c k) -∗ OReady c O s k)) := outFree_open c O s k
end

/-! ## The parts of the body that work on a block -/

section
variable (c : Dev nD) (i : grid0.Coords) (a2 : Memref sig .tc .vmem S26x1x64 .f32) (h2 : a2.IsWhole) (a4 : Memref sig .tc .vmem S1x1 .f32) (h4 : a4.IsWhole)
  (X O : FVec F S26x16384x64 .f32) (sh : Fin 4 → Fin 13 → PosShare TreeShare)

/-- The first four points: the block's last two parts awaited, its products accumulated, its positions added. -/
theorem part31_early (hi : ¬ 4 ≤ (i 0).val) (s : Fin 4) (hs : s.val = (i 0).val % 4) (k : ℕ) (f : FVec F S208x208 .f32) (qp : PosShare TreeShare) (Y : FVec F S26x1x64 .f32)
    (w1 w2) {Q : FVec F S1x26x256x64 .f32 → sProp 𝕄} :
    iprop(iprop(Mix (iFly c X sh s k) (iDone c X sh s k) 11 ∗ OW c) ∗ (aL c ↦{fullShare} f) ∗ (owns (c : Thread nD τ) a2 qp Y) ∗ OFree (F := F) c s)
      ⊢ iprop((iprop(OW c ∗ IFree c X sh s ∗ (aL c ↦{fullShare} k0_pay9 (blockOf X k) f) ∗ (owns (c : Thread nD τ) a2 qp Y) ∗ OOpen c O s k) -∗ Q (k0_pay10 (blockOf X k) Y))
      -∗ WP c (k0_part31 i xM (Memref.isWhole_whole _) a2 h2 outM (Memref.isWhole_whole _) a4 h4 ibM (Memref.isWhole_whole _) obM (Memref.isWhole_whole _)
          accM (Memref.isWhole_whole _) cc0_scratch3 cc0_scratch4 w1 w2) Q) := by
  rw [k0_part31_eq_skeleton]
  unfold k0_part31_skel
  have e := fun h => hi ((cond3_iff i).1 h)
  simp only [dif_neg e]
  simp only [bind_assoc, pure_bind, wp_bind]
  iintro ⟨H, Ha, Hp, Ho⟩ Hk
  iterate 2
    iapply (wait_in_step c X sh s k _ ?hj ?ec) $$ H
    case hj => decide
    case ec => rw [hs]; exact ClosedOff.eq
    iintro H
  icases H with ⟨H, HO⟩
  ihave H := (IDone_close c X sh s k) $$ H
  ihave H := (IDone_open c X sh s k) $$ H
  icases H with ⟨H, Hc⟩
  iapply (load_slot c X s k ?ho) $$ H
  case ho => rw [hs]; exact ClosedOff.eq
  iintro H
  iapply (load_acc c f) $$ Ha
  iintro Ha
  iapply (load_acc c f) $$ Ha
  iintro Ha
  iapply (store_acc c f _) $$ Ha
  iintro Ha
  iapply (load_owns c a2 qp Y) $$ Hp
  iintro Hp
  ihave Ho := (OFree_open c O s k) $$ Ho
  icases Ho with ⟨⟨%g, Ho⟩, Hoc⟩
  iapply (load_old c s g ?ho) $$ Ho
  case ho => rw [hs]; exact ClosedOff.eq
  iintro %v Ho
  iapply (le_wp_ret _ _ _ _ _)
  iapply Hk
  isplitl [HO]; · iexact HO
  isplitl [H Hc]
  · iapply Hc; iexact H
  isplitl [Ha]; · iexact Ha
  isplitl [Hp]; · iexact Hp
  unfold OOpen
  isplitl [Ho]; · iexists g; iexact Ho
  iexact Hoc

/-- A later point: besides, the block that left the slot four points ago has arrived. -/
theorem part31_late (hi : 4 ≤ (i 0).val) (s : Fin 4) (hs : s.val = (i 0).val % 4) (k k' : ℕ) (f : FVec F S208x208 .f32) (qp : PosShare TreeShare) (Y : FVec F S26x1x64 .f32)
    (w1 w2) {Q : FVec F S1x26x256x64 .f32 → sProp 𝕄} :
    iprop(iprop(Mix (iFly c X sh s k) (iDone c X sh s k) 11 ∗ OW c) ∗ (aL c ↦{fullShare} f) ∗ (owns (c : Thread nD τ) a2 qp Y) ∗ OFly c O s k')
      ⊢ iprop((iprop(OW c ∗ IFree c X sh s ∗ (aL c ↦{fullShare} k0_pay9 (blockOf X k) f) ∗ (owns (c : Thread nD τ) a2 qp Y) ∗ OOpen c O s k ∗ HDone c O k')
          -∗ Q (k0_pay10 (blockOf X k) Y))
      -∗ WP c (k0_part31 i xM (Memref.isWhole_whole _) a2 h2 outM (Memref.isWhole_whole _) a4 h4 ibM (Memref.isWhole_whole _) obM (Memref.isWhole_whole _)
          accM (Memref.isWhole_whole _) cc0_scratch3 cc0_scratch4 w1 w2) Q) := by
  rw [k0_part31_eq_skeleton]
  unfold k0_part31_skel
  have e := (cond3_iff i).2 hi
  simp only [dif_pos e]
  unfold k0_part10 k0_part11 k0_part12
  simp only [bind_assoc, pure_bind, wp_bind]
  iintro ⟨H, Ha, Hp, Ho⟩ Hk
  iterate 2
    iapply (wait_in_step c X sh s k _ ?hj ?ec) $$ H
    case hj => decide
    case ec => rw [hs]; exact ClosedOff.eq
    iintro H
  icases H with ⟨H, HO⟩
  ihave H := (IDone_close c X sh s k) $$ H
  ihave H := (IDone_open c X sh s k) $$ H
  icases H with ⟨H, Hc⟩
  iapply (load_slot c X s k ?ho) $$ H
  case ho => rw [hs]; exact ClosedOff.eq
  iintro H
  iapply (load_acc c f) $$ Ha
  iintro Ha
  iapply (load_acc c f) $$ Ha
  iintro Ha
  iapply (store_acc c f _) $$ Ha
  iintro Ha
  ihave Ho := (OFly_start c O s k') $$ Ho
  icombine Ho HO as Ho
  iterate 13
    iapply (wait_out_step c O (fun _ => s) (fun _ => k') (fun q => q) _ ?hj ?ec) $$ Ho
    case hj => decide
    case ec => rw [hs]; exact ClosedOff.eq
    iintro Ho
  icases Ho with ⟨Ho, HO⟩
  ihave Ho := (ODone_close c O s k') $$ Ho
  icases Ho with ⟨Ho, Hd⟩
  iapply (load_owns c a2 qp Y) $$ Hp
  iintro Hp
  ihave Ho := (OFree_open c O s k) $$ Ho
  icases Ho with ⟨⟨%g, Ho⟩, Hoc⟩
  iapply (load_old c s g ?ho) $$ Ho
  case ho => rw [hs]; exact ClosedOff.eq
  iintro %v Ho
  iapply (le_wp_ret _ _ _ _ _)
  iapply Hk
  isplitl [HO]; · iexact HO
  isplitl [H Hc]
  · iapply Hc; iexact H
  isplitl [Ha]; · iexact Ha
  isplitl [Hp]; · iexact Hp
  isplitr [Hd]
  · unfold OOpen
    isplitl [Ho]; · iexists g; iexact Ho
    iexact Hoc
  · iexact Hd

/-- The block's sum stored into its slot, and the first four parts of it sent. -/
theorem part32 (s : Fin 4) (hs : s.val = (i 0).val % 4) (k : ℕ) (hk : k = (i 0).val) (hk' : k < 64) (w1) (v : FVec F S1x26x256x64 .f32) (hv : v = blockOf O k) {Q : PUnit → sProp 𝕄} :
    iprop(OOpen c O s k ∗ HTodo (F := F) c k) ⊢ iprop((Mix (oReady c O s k) (oFly c O s k) 4 -∗ Q ⟨⟩)
      -∗ WP c (k0_part32 i xM (Memref.isWhole_whole _) a2 h2 outM (Memref.isWhole_whole _) a4 h4 ibM (Memref.isWhole_whole _) obM (Memref.isWhole_whole _)
          accM (Memref.isWhole_whole _) cc0_scratch3 cc0_scratch4 w1 v) Q) := by
  unfold k0_part32
  simp only [wp_bind]
  unfold OOpen
  iintro ⟨⟨H, Hc⟩, Ht⟩ Hk
  iapply (store_slot c O s k ?ho v hv) $$ H
  case ho => rw [hs]; exact ClosedOff.eq
  iintro H
  icombine H Ht as H
  ihave H := Hc $$ H
  ihave H := (OReady_start c O s k) $$ H
  iterate 4
    iapply (enq_out_step c O s k hk' _ ?hj ?ec ?es ?ed) $$ H
    case hj => decide
    case ec => rw [hs]; exact ClosedOff.eq
    case es => exact ClosedOff.eq.trans (vec3_eq rfl (by rw [hk]) rfl)
    case ed => rw [hs]; exact ClosedOff.eq
    iintro H
  iapply (le_wp_ret _ _ _ _ _)
  iapply Hk
  iexact H

/-- Four more parts of it sent. -/
theorem part33 (s : Fin 4) (hs : s.val = (i 0).val % 4) (k : ℕ) (hk : k = (i 0).val) (hk' : k < 64) (w1) {Q : PUnit → sProp 𝕄} :
    Mix (oReady c O s k) (oFly c O s k) 4 ⊢ iprop((Mix (oReady c O s k) (oFly c O s k) 8 -∗ Q ⟨⟩)
      -∗ WP c (k0_part33 i xM (Memref.isWhole_whole _) a2 h2 outM (Memref.isWhole_whole _) a4 h4 ibM (Memref.isWhole_whole _) obM (Memref.isWhole_whole _)
          accM (Memref.isWhole_whole _) cc0_scratch3 cc0_scratch4 w1) Q) := by
  unfold k0_part33
  simp only [wp_bind]
  iintro H Hk
  iterate 4
    iapply (enq_out_step c O s k hk' _ ?hj ?ec ?es ?ed) $$ H
    case hj => decide
    case ec => rw [hs]; exact ClosedOff.eq
    case es => exact ClosedOff.eq.trans (vec3_eq rfl (by rw [hk]) rfl)
    case ed => rw [hs]; exact ClosedOff.eq
    iintro H
  iapply (le_wp_ret _ _ _ _ _)
  iapply Hk
  iexact H

/-- Four more parts of it sent. -/
theorem part34 (s : Fin 4) (hs : s.val = (i 0).val % 4) (k : ℕ) (hk : k = (i 0).val) (hk' : k < 64) (w1) {Q : PUnit → sProp 𝕄} :
    Mix (oReady c O s k) (oFly c O s k) 8 ⊢ iprop((Mix (oReady c O s k) (oFly c O s k) 12 -∗ Q ⟨⟩)
      -∗ WP c (k0_part34 i xM (Memref.isWhole_whole _) a2 h2 outM (Memref.isWhole_whole _) a4 h4 ibM (Memref.isWhole_whole _) obM (Memref.isWhole_whole _)
          accM (Memref.isWhole_whole _) cc0_scratch3 cc0_scratch4 w1) Q) := by
  unfold k0_part34
  simp only [wp_bind]
  iintro H Hk
  iterate 4
    iapply (enq_out_step c O s k hk' _ ?hj ?ec ?es ?ed) $$ H
    case hj => decide
    case ec => rw [hs]; exact ClosedOff.eq
    case es => exact ClosedOff.eq.trans (vec3_eq rfl (by rw [hk]) rfl)
    case ed => rw [hs]; exact ClosedOff.eq
    iintro H
  iapply (le_wp_ret _ _ _ _ _)
  iapply Hk
  iexact H

end

end Cert.KernelIdeal.Hand
-- ==== Proof.IdealBody.lean ====
module

public import proofs.«01_k».proof.Proof.IdealWalkOut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## What holds between two points -/

/-- The slot a block number falls to. -/
def sl (n : ℕ) : Fin 4 := ⟨n % 4, Nat.mod_lt _ (by decide)⟩

theorem sl_add4 (n : ℕ) : sl (n + 4) = sl n := Fin.ext (by show (n + 4) % 4 = n % 4; omega)

/-- The accumulator after the first `t` blocks. -/
def accV (X : FVec F S26x16384x64 .f32) : ℕ → FVec F S208x208 .f32
  | 0 => k0_pay2
  | t + 1 => k0_pay9 (blockOf X t) (accV X t)

section
variable (c : Dev nD) (X O : FVec F S26x16384x64 .f32) (sh : Fin 4 → Fin 13 → PosShare TreeShare)

/-- The slot of block `u` of the argument: the block on its way, or the slot at rest when there is no such block. -/
def inAt (u : ℕ) : sProp 𝕄 := if u < 64 then IFly c X sh (sl u) u else IFree c X sh (sl u)
/-- The input ring before point `t`: nothing started before the first, then two blocks on their way. -/
def inSt (t : ℕ) : sProp 𝕄 :=
  if t = 0 then iprop(IFree c X sh (sl 0) ∗ IFree c X sh (sl 1) ∗ IFree c X sh (sl 2) ∗ IFree c X sh (sl 3))
  else iprop(inAt c X sh t ∗ inAt c X sh (t + 1) ∗ IFree c X sh (sl (t + 2)) ∗ IFree c X sh (sl (t + 3)))
/-- The accumulator before point `t`. -/
def accSt (t : ℕ) : sProp 𝕄 :=
  if t = 0 then iprop(∃ f : FVec F S208x208 .f32, aL c ↦{fullShare} f) else iprop(aL c ↦{fullShare} accV X t)
/-- The slot block `u` of the result will use: block `u - 4` on its way, if there is one. -/
def outAt (u : ℕ) : sProp 𝕄 := if 4 ≤ u then OFly c O (sl u) (u - 4) else OFree (F := F) c (sl u)
/-- The blocks of the result that have arrived, and those not written yet. -/
def doneSt (n : ℕ) : sProp 𝕄 := bigSep (Finset.range n) fun k => HDone c O k
def todoSt (t : ℕ) : sProp 𝕄 := bigSep (Finset.Ico t 64) fun k => HTodo (F := F) c k
/-- Everything the body keeps, before point `t`. -/
def midSt (t : ℕ) : sProp 𝕄 :=
  iprop(inSt c X sh t ∗ accSt c X t ∗ iprop(outAt c O t ∗ outAt c O (t + 1) ∗ outAt c O (t + 2) ∗ outAt c O (t + 3)) ∗ doneSt c O (t - 4) ∗ todoSt (F := F) c t)
/-- Everything the body keeps, after the last point. -/
def lastSt : sProp 𝕄 :=
  iprop(iprop(IFree c X sh (sl 0) ∗ IFree c X sh (sl 1) ∗ IFree c X sh (sl 2) ∗ IFree c X sh (sl 3)) ∗ (aL c ↦{fullShare} accV X 64)
    ∗ iprop(OFree (F := F) c (sl 0) ∗ OFree (F := F) c (sl 1) ∗ OFree (F := F) c (sl 2) ∗ OFree (F := F) c (sl 3)) ∗ doneSt c O 64)

theorem doneSt_succ (n : ℕ) : iprop(doneSt c O n ∗ HDone c O n) ⊢ doneSt c O (n + 1) := by
  unfold doneSt
  rw [Finset.range_add_one, show bigSep (insert n (Finset.range n)) (fun k => HDone c O k) = iprop(HDone c O n ∗ bigSep (Finset.range n) fun k => HDone c O k) from
    BI.bigSep_insert Finset.notMem_range_self]
  iintro ⟨H, H'⟩
  isplitl [H']; · iexact H'
  iexact H
theorem todoSt_take (t : ℕ) (ht : t < 64) : todoSt (F := F) c t ⊢ iprop(HTodo (F := F) c t ∗ todoSt (F := F) c (t + 1)) := by
  unfold todoSt
  rw [show Finset.Ico t 64 = insert t (Finset.Ico (t + 1) 64) by ext x; simp only [Finset.mem_insert, Finset.mem_Ico]; omega,
    show bigSep (insert t (Finset.Ico (t + 1) 64)) (fun k => HTodo (F := F) c k) = iprop(HTodo (F := F) c t ∗ bigSep (Finset.Ico (t + 1) 64) fun k => HTodo (F := F) c k) from
    BI.bigSep_insert (by simp)]
end

/-! ## The stages of the body at any point -/

section
variable (c : Dev nD) (i : grid0.Coords) (a2 : Memref sig .tc .vmem S26x1x64 .f32) (h2 : a2.IsWhole) (a4 : Memref sig .tc .vmem S1x1 .f32) (h4 : a4.IsWhole)
  (X O : FVec F S26x16384x64 .f32) (sh : Fin 4 → Fin 13 → PosShare TreeShare)

/-- Starting a block and awaiting the first parts of the point's own. -/
theorem stage_in (t : ℕ) (ht : (i 0).val = t) {Q : (Σ' (_ : BitVec 32) (_ : BitVec 32), BitVec 32) → sProp 𝕄} :
    iprop(inSt c X sh t ∗ accSt c X t ∗ OW c)
      ⊢ iprop((∀ r, iprop(iprop(Mix (iFly c X sh (sl t) t) (iDone c X sh (sl t) t) 3 ∗ OW c) ∗ (aL c ↦{fullShare} accV X t)
            ∗ inAt c X sh (t + 1) ∗ inAt c X sh (t + 2) ∗ IFree c X sh (sl (t + 3))) -∗ Q r)
      -∗ WP c (k0_part28 i xM (Memref.isWhole_whole _) a2 h2 outM (Memref.isWhole_whole _) a4 h4 ibM (Memref.isWhole_whole _) obM (Memref.isWhole_whole _)
          accM (Memref.isWhole_whole _) cc0_scratch3 cc0_scratch4) Q) := by
  have htl : t < 64 := ht ▸ (i 0).isLt
  by_cases h0 : t = 0
  · subst h0
    unfold inSt accSt inAt
    rw [if_pos rfl, if_pos rfl, if_pos (by decide), if_pos (by decide)]
    iintro ⟨⟨H0, H1, H2, H3⟩, Ha, HO⟩ Hk
    iapply (part28_first c i a2 h2 a4 h4 X sh ht (sl 0) (by rw [ht]; rfl) (sl 2) (by rw [ht]; rfl) 2 (by rw [ht])) $$ [Ha H0 H1 H2 HO]
    · isplitl [Ha]; · iexact Ha
      isplitl [H0]; · iexact H0
      isplitl [H1]; · iexact H1
      isplitl [H2]; · iexact H2
      iexact HO
    iintro %r ⟨Ha, H0, H1, H2⟩
    iapply Hk
    isplitl [H0]; · iexact H0
    isplitl [Ha]; · iexact Ha
    isplitl [H1]; · iexact H1
    isplitl [H2]; · iexact H2
    iexact H3
  · unfold inSt accSt
    rw [if_neg h0, if_neg h0]
    by_cases h2' : t + 2 < 64
    · have e0 : inAt c X sh t = IFly c X sh (sl t) t := if_pos htl
      have e2 : inAt c X sh (t + 2) = IFly c X sh (sl (t + 2)) (t + 2) := if_pos h2'
      rw [e0, e2]
      iintro ⟨⟨H0, H1, H2, H3⟩, Ha, HO⟩ Hk
      iapply (part28_mid c i a2 h2 a4 h4 X sh (by omega) (by omega) (sl t) (by rw [ht]; rfl) t (sl (t + 2)) (by rw [ht]; rfl) (t + 2) (by rw [ht])) $$ [H0 H2 HO]
      · isplitl [H0]; · iexact H0
        isplitl [H2]; · iexact H2
        iexact HO
      iintro %r ⟨H0, H2⟩
      iapply Hk
      isplitl [H0]; · iexact H0
      isplitl [Ha]; · iexact Ha
      isplitl [H1]; · iexact H1
      isplitl [H2]; · iexact H2
      iexact H3
    · have e0 : inAt c X sh t = IFly c X sh (sl t) t := if_pos htl
      have e2 : inAt c X sh (t + 2) = IFree c X sh (sl (t + 2)) := if_neg h2'
      rw [e0, e2]
      iintro ⟨⟨H0, H1, H2, H3⟩, Ha, HO⟩ Hk
      iapply (part28_last c i a2 h2 a4 h4 X sh (by omega) (sl t) (by rw [ht]; rfl) t) $$ [H0 HO]
      · isplitl [H0]; · iexact H0
        iexact HO
      iintro %r H0
      iapply Hk
      isplitl [H0]; · iexact H0
      isplitl [Ha]; · iexact Ha
      isplitl [H1]; · iexact H1
      isplitl [H2]; · iexact H2
      iexact H3

/-- Working on the point's block. -/
theorem stage_work (t : ℕ) (ht : (i 0).val = t) (f : FVec F S208x208 .f32) (qp : PosShare TreeShare) (Y : FVec F S26x1x64 .f32) (w1 w2)
    {Q : FVec F S1x26x256x64 .f32 → sProp 𝕄} :
    iprop(iprop(Mix (iFly c X sh (sl t) t) (iDone c X sh (sl t) t) 11 ∗ OW c) ∗ (aL c ↦{fullShare} f) ∗ (owns (c : Thread nD τ) a2 qp Y) ∗ outAt c O t ∗ doneSt c O (t - 4))
      ⊢ iprop((iprop(OW c ∗ IFree c X sh (sl t) ∗ (aL c ↦{fullShare} k0_pay9 (blockOf X t) f) ∗ (owns (c : Thread nD τ) a2 qp Y) ∗ OOpen c O (sl t) t ∗ doneSt c O (t + 1 - 4))
          -∗ Q (k0_pay10 (blockOf X t) Y))
      -∗ WP c (k0_part31 i xM (Memref.isWhole_whole _) a2 h2 outM (Memref.isWhole_whole _) a4 h4 ibM (Memref.isWhole_whole _) obM (Memref.isWhole_whole _)
          accM (Memref.isWhole_whole _) cc0_scratch3 cc0_scratch4 w1 w2) Q) := by
  unfold outAt
  by_cases h : 4 ≤ t
  · rw [if_pos h, show t + 1 - 4 = (t - 4) + 1 by omega]
    iintro ⟨H, Ha, Hp, Ho, Hd⟩ Hk
    iapply (part31_late c i a2 h2 a4 h4 X O sh (by omega) (sl t) (by rw [ht]; rfl) t (t - 4) f qp Y w1 w2) $$ [H Ha Hp Ho]
    · isplitl [H]; · iexact H
      isplitl [Ha]; · iexact Ha
      isplitl [Hp]; · iexact Hp
      iexact Ho
    iintro ⟨HO, H, Ha, Hp, Ho, Hn⟩
    iapply Hk
    isplitl [HO]; · iexact HO
    isplitl [H]; · iexact H
    isplitl [Ha]; · iexact Ha
    isplitl [Hp]; · iexact Hp
    isplitl [Ho]; · iexact Ho
    iapply (doneSt_succ c O (t - 4))
    isplitl [Hd]; · iexact Hd
    iexact Hn
  · rw [if_neg h, show t + 1 - 4 = 0 by omega, show t - 4 = 0 by omega]
    iintro ⟨H, Ha, Hp, Ho, Hd⟩ Hk
    iapply (part31_early c i a2 h2 a4 h4 X O sh (by omega) (sl t) (by rw [ht]; rfl) t f qp Y w1 w2) $$ [H Ha Hp Ho]
    · isplitl [H]; · iexact H
      isplitl [Ha]; · iexact Ha
      isplitl [Hp]; · iexact Hp
      iexact Ho
    iintro ⟨HO, H, Ha, Hp, Ho⟩
    iapply Hk
    isplitl [HO]; · iexact HO
    isplitl [H]; · iexact H
    isplitl [Ha]; · iexact Ha
    isplitl [Hp]; · iexact Hp
    isplitl [Ho]; · iexact Ho
    iexact Hd

end

end Cert.KernelIdeal.Hand
-- ==== Proof.IdealStep.lean ====
module

public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

section
variable (c : Dev nD) (i : grid0.Coords) (a2 : Memref sig .tc .vmem S26x1x64 .f32) (h2 : a2.IsWhole) (a4 : Memref sig .tc .vmem S1x1 .f32) (h4 : a4.IsWhole)
  (X O : FVec F S26x16384x64 .f32) (sh : Fin 4 → Fin 13 → PosShare TreeShare)

/-- The loss the last point writes, from the accumulator. -/
def lossV (acc : FVec F S208x208 .f32) : FVec F S1x1 .f32 :=
  k0_pay1 k0_pay6 (k0_pay7 (k0_pay3 acc) (iota .tc S26x208 32 [0] iota_S26x208_d0_w32) (iota .tc S26x208 32 [1] iota_S26x208_d1_w32) 8#32 k0_pay4 k0_pay5)

theorem vec4_eq {a b d e a' b' d' e' : ℕ} (h1 : a = a') (h2 : b = b') (h3 : d = d') (h4 : e = e') : (![a, b, d, e] : Fin 4 → ℕ) = ![a', b', d', e'] := by
  rw [h1, h2, h3, h4]

/-- The body at any point but the last. -/
theorem body_inner (t : ℕ) (ht : (i 0).val = t) (hlast : t ≠ 63) (qp : PosShare TreeShare) (Y : FVec F S26x1x64 .f32)
    (hv : ∀ k, k0_pay10 (blockOf X k) Y = blockOf O k) {Q : PUnit → sProp 𝕄} :
    iprop(midSt c X O sh t ∗ OW c ∗ (owns (c : Thread nD τ) a2 qp Y))
      ⊢ iprop((iprop(midSt c X O sh (t + 1) ∗ OW c ∗ (owns (c : Thread nD τ) a2 qp Y)) -∗ Q ⟨⟩)
      -∗ WP c (cc0__fused_kernel i xM (Memref.isWhole_whole _) a2 h2 outM (Memref.isWhole_whole _) a4 h4 ibM (Memref.isWhole_whole _) obM (Memref.isWhole_whole _)
          accM (Memref.isWhole_whole _) cc0_scratch3 cc0_scratch4) Q) := by
  have htl : t < 64 := ht ▸ (i 0).isLt
  have hn : ¬ k0_cond4 i = 1#1 := fun h => hlast (ht ▸ (cond4_iff i).1 h)
  rw [cc0__fused_kernel_eq_skeleton]
  unfold cc0__fused_kernel_skel
  simp only [dif_neg hn]
  simp only [bind_assoc, pure_bind, wp_bind]
  unfold midSt
  iintro ⟨⟨Hi, Ha, ⟨Ho0, Ho1, Ho2, Ho3⟩, Hd, Ht⟩, HO, Hp⟩ Hk
  iapply (stage_in c i a2 h2 a4 h4 X sh t ht) $$ [Hi Ha HO]
  · isplitl [Hi]; · iexact Hi
    isplitl [Ha]; · iexact Ha
    iexact HO
  iintro %r ⟨H, Ha, Hi1, Hi2, Hi3⟩
  iapply (part29 c i a2 h2 a4 h4 X sh (sl t) (by rw [ht]; rfl) t _ _) $$ H
  iintro H
  iapply (part30 c i a2 h2 a4 h4 X sh (sl t) (by rw [ht]; rfl) t _) $$ H
  iintro H
  iapply (stage_work c i a2 h2 a4 h4 X O sh t ht (accV X t) qp Y _ _) $$ [H Ha Hp Ho0 Hd]
  · isplitl [H]; · iexact H
    isplitl [Ha]; · iexact Ha
    isplitl [Hp]; · iexact Hp
    isplitl [Ho0]; · iexact Ho0
    iexact Hd
  iintro ⟨HO, Hi0, Ha, Hp, Ho0, Hd⟩
  ihave Ht := (todoSt_take c t htl) $$ Ht
  icases Ht with ⟨Ht0, Ht⟩
  iapply (part32 c i a2 h2 a4 h4 O (sl t) (by rw [ht]; rfl) t ht.symm htl _ _ (hv t)) $$ [Ho0 Ht0]
  · isplitl [Ho0]; · iexact Ho0
    iexact Ht0
  iintro H
  iapply (part33 c i a2 h2 a4 h4 O (sl t) (by rw [ht]; rfl) t ht.symm htl _) $$ H
  iintro H
  iapply (part34 c i a2 h2 a4 h4 O (sl t) (by rw [ht]; rfl) t ht.symm htl _) $$ H
  iintro H
  iapply (enq_out_step c O (sl t) t htl _ ?hj ?ec ?es ?ed) $$ H
  case hj => decide
  case ec => refine ClosedOff.eq.trans ?_; exact vec2_eq (by rw [ht]; rfl) rfl
  case es => exact ClosedOff.eq.trans (vec3_eq rfl (by rw [ht]) rfl)
  case ed => refine ClosedOff.eq.trans ?_; exact vec4_eq (by rw [ht]; rfl) rfl rfl rfl
  iintro H
  ihave H := (OFly_close c O (sl t) t) $$ H
  iapply (le_wp_ret _ _ _ _ _)
  iapply Hk
  isplitr [HO Hp]
  · isplitl [Hi0 Hi1 Hi2 Hi3]
    · unfold inSt
      rw [if_neg (Nat.succ_ne_zero t)]
      isplitl [Hi1]; · iexact Hi1
      isplitl [Hi2]; · iexact Hi2
      isplitl [Hi3]; · iexact Hi3
      rw [show t + 1 + 3 = t + 4 from rfl, sl_add4]
      iexact Hi0
    isplitl [Ha]
    · unfold accSt
      rw [if_neg (Nat.succ_ne_zero t)]
      iexact Ha
    isplitl [H Ho1 Ho2 Ho3]
    · isplitl [Ho1]; · iexact Ho1
      isplitl [Ho2]; · iexact Ho2
      isplitl [Ho3]; · iexact Ho3
      have e : outAt c O (t + 1 + 3) = OFly c O (sl t) t := by
        unfold outAt
        rw [if_pos (by omega), show t + 1 + 3 = t + 4 from rfl, sl_add4, Nat.add_sub_cancel]
      rw [e]
      iexact H
    isplitl [Hd]; · iexact Hd
    iexact Ht
  · isplitl [HO]; · iexact HO
    iexact Hp

/-- The body at the last point: besides, the last four blocks arrive and the loss is written. -/
theorem body_last (ht : (i 0).val = 63) (qp : PosShare TreeShare) (Y : FVec F S26x1x64 .f32) (d : FVec F S1x1 .f32)
    (hv : ∀ k, k0_pay10 (blockOf X k) Y = blockOf O k) {Q : PUnit → sProp 𝕄} :
    iprop(midSt c X O sh 63 ∗ OW c ∗ (owns (c : Thread nD τ) a2 qp Y) ∗ (owns (c : Thread nD τ) a4 fullShare d))
      ⊢ iprop((iprop(lastSt c X O sh ∗ OW c ∗ (owns (c : Thread nD τ) a2 qp Y) ∗ (owns (c : Thread nD τ) a4 fullShare (lossV (accV X 64)))) -∗ Q ⟨⟩)
      -∗ WP c (cc0__fused_kernel i xM (Memref.isWhole_whole _) a2 h2 outM (Memref.isWhole_whole _) a4 h4 ibM (Memref.isWhole_whole _) obM (Memref.isWhole_whole _)
          accM (Memref.isWhole_whole _) cc0_scratch3 cc0_scratch4) Q) := by
  have htl : 63 < 64 := by decide
  have hn : k0_cond4 i = 1#1 := (cond4_iff i).2 ht
  rw [cc0__fused_kernel_eq_skeleton]
  unfold cc0__fused_kernel_skel
  simp only [dif_pos hn]
  rw [k0_part26_eq_skeleton, k0_part27_eq_skeleton]
  unfold k0_part13 k0_part14 k0_part15 k0_part16 k0_part17 k0_part18 k0_part19 k0_part20 k0_part21 k0_part22 k0_part23 k0_part24 k0_part25
    k0_part26_skel k0_part27_skel
  simp only [bind_assoc, pure_bind, wp_bind]
  unfold midSt
  iintro ⟨⟨Hi, Ha, ⟨Ho0, Ho1, Ho2, Ho3⟩, Hd, Ht⟩, HO, Hp, Hl⟩ Hk
  iapply (stage_in c i a2 h2 a4 h4 X sh 63 ht) $$ [Hi Ha HO]
  · isplitl [Hi]; · iexact Hi
    isplitl [Ha]; · iexact Ha
    iexact HO
  iintro %r ⟨H, Ha, Hi1, Hi2, Hi3⟩
  iapply (part29 c i a2 h2 a4 h4 X sh (sl 63) (by rw [ht]; rfl) 63 _ _) $$ H
  iintro H
  iapply (part30 c i a2 h2 a4 h4 X sh (sl 63) (by rw [ht]; rfl) 63 _) $$ H
  iintro H
  iapply (stage_work c i a2 h2 a4 h4 X O sh 63 ht (accV X 63) qp Y _ _) $$ [H Ha Hp Ho0 Hd]
  · isplitl [H]; · iexact H
    isplitl [Ha]; · iexact Ha
    isplitl [Hp]; · iexact Hp
    isplitl [Ho0]; · iexact Ho0
    iexact Hd
  iintro ⟨HO, Hi0, Ha, Hp, Ho0, Hd⟩
  ihave Ht := (todoSt_take c 63 htl) $$ Ht
  icases Ht with ⟨Ht0, Ht⟩
  iapply (part32 c i a2 h2 a4 h4 O (sl 63) (by rw [ht]; rfl) 63 ht.symm htl _ _ (hv 63)) $$ [Ho0 Ht0]
  · isplitl [Ho0]; · iexact Ho0
    iexact Ht0
  iintro H
  iapply (part33 c i a2 h2 a4 h4 O (sl 63) (by rw [ht]; rfl) 63 ht.symm htl _) $$ H
  iintro H
  iapply (part34 c i a2 h2 a4 h4 O (sl 63) (by rw [ht]; rfl) 63 ht.symm htl _) $$ H
  iintro H
  iapply (enq_out_step c O (sl 63) 63 htl _ ?hj ?ec ?es ?ed) $$ H
  case hj => decide
  case ec => refine ClosedOff.eq.trans ?_; exact vec2_eq (by rw [ht]; rfl) rfl
  case es => exact ClosedOff.eq.trans (vec3_eq rfl (by rw [ht]) rfl)
  case ed => refine ClosedOff.eq.trans ?_; exact vec4_eq (by rw [ht]; rfl) rfl rfl rfl
  iintro H
  ihave H := (OFly_close c O (sl 63) 63) $$ H
  have e1 : outAt c O (63 + 1) ⊢ OFly c O (sl 0) 60 := .rfl
  have e2 : outAt c O (63 + 2) ⊢ OFly c O (sl 1) 61 := .rfl
  have e3 : outAt c O (63 + 3) ⊢ OFly c O (sl 2) 62 := .rfl
  have e4 : OFly c O (sl 63) 63 ⊢ OFly c O (sl 3) 63 := .rfl
  ihave Ho1 := e1 $$ Ho1
  ihave Ho2 := e2 $$ Ho2
  ihave Ho3 := e3 $$ Ho3
  ihave Ho4 := e4 $$ H
  ihave Ho1 := (OFly_start c O (sl 0) 60) $$ Ho1
  icombine Ho1 HO as H
  iterate 13
    iapply (wait_out_step c O (fun _ => sl 0) (fun _ => 60) (fun q => q) _ ?hj ?ec) $$ H
    case hj => decide
    case ec => rfl
    iintro H
  icases H with ⟨Ho1, HO⟩
  ihave Ho1 := (ODone_close c O (sl 0) 60) $$ Ho1
  icases Ho1 with ⟨Ho1, Hn⟩
  icombine Hd Hn as Hd
  ihave Hd := (doneSt_succ c O 60) $$ Hd
  ihave Ho2 := (OFly_start c O (sl 1) 61) $$ Ho2
  icombine Ho2 HO as H
  iterate 13
    iapply (wait_out_step c O (fun _ => sl 1) (fun _ => 61) (fun q => q) _ ?hj ?ec) $$ H
    case hj => decide
    case ec => rfl
    iintro H
  icases H with ⟨Ho2, HO⟩
  ihave Ho2 := (ODone_close c O (sl 1) 61) $$ Ho2
  icases Ho2 with ⟨Ho2, Hn⟩
  icombine Hd Hn as Hd
  ihave Hd := (doneSt_succ c O 61) $$ Hd
  ihave Ho3 := (OFly_start c O (sl 2) 62) $$ Ho3
  icombine Ho3 HO as H
  iterate 13
    iapply (wait_out_step c O (fun _ => sl 2) (fun _ => 62) (fun q => q) _ ?hj ?ec) $$ H
    case hj => decide
    case ec => rfl
    iintro H
  icases H with ⟨Ho3, HO⟩
  ihave Ho3 := (ODone_close c O (sl 2) 62) $$ Ho3
  icases Ho3 with ⟨Ho3, Hn⟩
  icombine Hd Hn as Hd
  ihave Hd := (doneSt_succ c O 62) $$ Hd
  ihave Ho4 := (OFly_start c O (sl 3) 63) $$ Ho4
  icombine Ho4 HO as H
  iterate 13
    iapply (wait_out_step c O (fun _ => sl 3) (fun _ => 63) (fun q => q) _ ?hj ?ec) $$ H
    case hj => decide
    case ec => rfl
    iintro H
  icases H with ⟨Ho4, HO⟩
  ihave Ho4 := (ODone_close c O (sl 3) 63) $$ Ho4
  icases Ho4 with ⟨Ho4, Hn⟩
  icombine Hd Hn as Hd
  ihave Hd := (doneSt_succ c O 63) $$ Hd
  iapply (load_acc c _) $$ Ha
  iintro Ha
  iapply (load_owns c a4 fullShare d) $$ Hl
  iintro Hl
  iapply (store_owns c a4 d _) $$ Hl
  iintro Hl
  iapply (le_wp_ret _ _ _ _ _)
  iapply Hk
  isplitr [HO Hp Hl]
  · unfold lastSt
    isplitl [Hi0 Hi1 Hi2 Hi3]
    · have i1 : inAt c X sh (63 + 1) ⊢ IFree c X sh (sl 0) := .rfl
      have i2 : inAt c X sh (63 + 2) ⊢ IFree c X sh (sl 1) := .rfl
      isplitl [Hi1]; · iapply i1; iexact Hi1
      isplitl [Hi2]; · iapply i2; iexact Hi2
      isplitl [Hi3]; · iexact Hi3
      iexact Hi0
    isplitl [Ha]; · iexact Ha
    isplitl [Ho1 Ho2 Ho3 Ho4]
    · isplitl [Ho1]; · iexact Ho1
      isplitl [Ho2]; · iexact Ho2
      isplitl [Ho3]; · iexact Ho3
      iexact Ho4
    iexact Hd
  · isplitl [HO]; · iexact HO
    isplitl [Hp]; · iexact Hp
    iexact Hl

end

end Cert.KernelIdeal.Hand
-- ==== Proof.IdealSplit.lean ====
module

public import proofs.«01_k».proof.Proof.IdealStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## A buffer held whole, dealt to the parts that the body moves -/

section Dealt
variable {ℓ : Loc nD τ sig}

/-- A family over four, one by one. -/
theorem four_eq (Φ : Fin 4 → sProp 𝕄) : bigSep Finset.univ Φ = iprop(Φ (sl 0) ∗ Φ (sl 1) ∗ Φ (sl 2) ∗ Φ (sl 3)) :=
  (BI.bigSep_univ_eq_bigSepL [sl 0, sl 1, sl 2, sl 3] (by decide) (by decide) Φ)

/-- A family over the first `n` numbers is one over the indices below `n`. -/
theorem range_eq (n : ℕ) (Φ : ℕ → sProp 𝕄) : bigSep (Finset.range n) Φ = bigSep Finset.univ fun k : Fin n => Φ k.val := by
  rw [← Nat.Iio_eq_range, ← Fin.map_valEmbedding_univ, BI.bigSep_map]; rfl

/-- Sets that make up everything, each made up of its parts: everything held is the parts held. -/
theorem held_deal {n p : ℕ} (S : Fin n → Finset (Idx ℓ)) (I : Fin n → Fin p → Finset (Idx ℓ)) (hS : ∀ q q', q ≠ q' → Disjoint (S q) (S q'))
    (hI : ∀ k q q', q ≠ q' → Disjoint (I k q) (I k q')) (hcS : ∀ i, ∃ k, i ∈ S k) (hcI : ∀ k i, (∃ q, i ∈ I k q) ↔ i ∈ S k) (f : Buf (Elt F) ℓ) :
    (ℓ ↦{fullShare} f : sProp 𝕄) = bigSep Finset.univ fun k => bigSep Finset.univ fun q => ℓ ↦[I k q]{fullShare} f := by
  rw [show (ℓ ↦{fullShare} f : sProp 𝕄) = bigSep Finset.univ fun k => ℓ ↦[S k]{fullShare} f from
    held_parts S Finset.univ hS (fun i => ⟨fun _ => Finset.mem_univ _, fun _ => hcS i⟩) f]
  exact congrArg (bigSep Finset.univ) (funext fun k => held_parts (I k) (S k) (hI k) (hcI k) f)
/-- The parts held, each at something: everything held at something. -/
theorem held_gather {n p : ℕ} (S : Fin n → Finset (Idx ℓ)) (I : Fin n → Fin p → Finset (Idx ℓ)) (hS : ∀ q q', q ≠ q' → Disjoint (S q) (S q'))
    (hI : ∀ k q q', q ≠ q' → Disjoint (I k q) (I k q')) (hcS : ∀ i, ∃ k, i ∈ S k) (hcI : ∀ k i, (∃ q, i ∈ I k q) ↔ i ∈ S k) (f₀ : Buf (Elt F) ℓ) :
    bigSep Finset.univ (fun k => bigSep Finset.univ fun q => iprop(∃ f, ℓ ↦[I k q]{fullShare} f)) ⊢ (iprop(∃ f, ℓ ↦{fullShare} f) : sProp 𝕄) :=
  (bigSep_mono fun k _ => held_join (I k) (S k) (hI k) (hcI k) f₀).trans
    (held_join S Finset.univ hS (fun i => ⟨fun _ => Finset.mem_univ _, fun _ => hcS i⟩) f₀)
/-- The parts held at one function, weakened to something. -/
theorem held_some {n p : ℕ} (I : Fin n → Fin p → Finset (Idx ℓ)) (f : Buf (Elt F) ℓ) :
    bigSep Finset.univ (fun k => bigSep Finset.univ fun q => ℓ ↦[I k q]{fullShare} f)
      ⊢ (bigSep Finset.univ (fun k => bigSep Finset.univ fun q => iprop(∃ f, ℓ ↦[I k q]{fullShare} f)) : sProp 𝕄) :=
  bigSep_mono fun k _ => bigSep_mono fun q _ => by
    show (ℓ ↦[I k q]{fullShare} f : sProp 𝕄) ⊢ iprop(∃ f, ℓ ↦[I k q]{fullShare} f)
    iintro H; iexists f; iexact H

/-- The share of the argument that part `q` of slot `s` reads through. -/
def shr (s : Fin 4) (q : Fin 13) : PosShare TreeShare := Transfers.dealOf (Transfers.dealOf fullShare Finset.univ s) Finset.univ q
theorem share_deal (f : Buf (Elt F) ℓ) :
    (ℓ ↦{fullShare} f : sProp 𝕄) = bigSep Finset.univ fun s => bigSep Finset.univ fun q => ℓ ↦{shr s q} f := by
  rw [Transfers.pointsTo_deal (Finset.univ : Finset (Fin 4)) Finset.univ_nonempty fullShare]
  exact congrArg (bigSep Finset.univ) (funext fun s => Transfers.pointsTo_deal Finset.univ Finset.univ_nonempty _)
end Dealt

/-! ## The slot buffers and the result -/

theorem slotAll_disj (s s' : Fin 4) (h : s ≠ s') : Disjoint (slotAll s) (slotAll s') := by
  refine Finset.disjoint_left.mpr fun i hi hi' => h (Fin.ext ?_)
  simp only [slotAll, Finset.mem_filter, Finset.mem_univ, true_and] at hi hi'
  omega
theorem slotAll_cover (i : S4x26x256x64.Idx) : ∃ s, i ∈ slotAll s :=
  ⟨i 0, by simp only [slotAll, Finset.mem_filter, Finset.mem_univ, true_and]⟩

/-- The elements of row block `k` of the result. -/
def homeAll (k : Fin 64) : Finset S26x16384x64.Idx := Finset.univ.filter fun i => (i 1).val / 256 = k.val
theorem homeAll_disj (k k' : Fin 64) (h : k ≠ k') : Disjoint (homeAll k) (homeAll k') := by
  refine Finset.disjoint_left.mpr fun i hi hi' => h (Fin.ext ?_)
  simp only [homeAll, Finset.mem_filter, Finset.mem_univ, true_and] at hi hi'
  omega
theorem homeAll_cover (i : S26x16384x64.Idx) : ∃ k, i ∈ homeAll k := by
  have h1 : (i 1).val < 16384 := (i 1).isLt
  exact ⟨⟨(i 1).val / 256, by omega⟩, by simp only [homeAll, Finset.mem_filter, Finset.mem_univ, true_and]⟩
theorem homePart_disj (k : Fin 64) (q q' : Fin 13) (h : q ≠ q') : Disjoint (homePart k.val q) (homePart k.val q') := by
  refine Finset.disjoint_left.mpr fun i hi hi' => h (Fin.ext ?_)
  simp only [homePart, Finset.mem_filter, Finset.mem_univ, true_and] at hi hi'
  omega
theorem homePart_cover (k : Fin 64) (i : S26x16384x64.Idx) : (∃ q, i ∈ homePart k.val q) ↔ i ∈ homeAll k := by
  simp only [homePart, homeAll, Finset.mem_filter, Finset.mem_univ, true_and]
  have h0 : (i 0).val < 26 := (i 0).isLt
  constructor
  · rintro ⟨q, h, -⟩; exact h
  · intro h; exact ⟨⟨(i 0).val / 2, by omega⟩, h, rfl⟩

theorem ib_split (c : Dev nD) (f : FVec F S4x26x256x64 .f32) :
    (ibL c ↦{fullShare} f : sProp 𝕄) ⊢ bigSep Finset.univ fun s => bigSep Finset.univ fun q => iprop(∃ f, ibL c ↦[slotPart s q]{fullShare} f) :=
  (Entails.of_eq (held_deal (ℓ := ibL c) slotAll slotPart slotAll_disj slotPart_disj slotAll_cover slotPart_cover f)).trans (held_some (ℓ := ibL c) slotPart f)
theorem ob_split (c : Dev nD) (f : FVec F S4x26x256x64 .f32) :
    (obL c ↦{fullShare} f : sProp 𝕄) ⊢ bigSep Finset.univ fun s => bigSep Finset.univ fun q => iprop(∃ f, obL c ↦[slotPart s q]{fullShare} f) :=
  (Entails.of_eq (held_deal (ℓ := obL c) slotAll slotPart slotAll_disj slotPart_disj slotAll_cover slotPart_cover f)).trans (held_some (ℓ := obL c) slotPart f)
theorem out_deal (c : Dev nD) (f : FVec F S26x16384x64 .f32) :
    (oL c ↦{fullShare} f : sProp 𝕄) = bigSep Finset.univ fun k : Fin 64 => bigSep Finset.univ fun q => oL c ↦[homePart k.val q]{fullShare} f :=
  held_deal (ℓ := oL c) homeAll (fun k q => homePart k.val q) homeAll_disj homePart_disj homeAll_cover homePart_cover f
theorem out_split (c : Dev nD) (f : FVec F S26x16384x64 .f32) : (oL c ↦{fullShare} f : sProp 𝕄) ⊢ todoSt (F := F) c 0 := by
  unfold todoSt
  rw [← Finset.range_eq_Ico, range_eq, out_deal]
  exact held_some (ℓ := oL c) (fun (k : Fin 64) q => homePart k.val q) f
theorem out_join (c : Dev nD) (O : FVec F S26x16384x64 .f32) : doneSt c O 64 ⊢ (oL c ↦{fullShare} O : sProp 𝕄) := by
  unfold doneSt
  rw [range_eq, out_deal]
  exact .rfl

/-! ## The cells -/

/-- The body's own cells: those of the incoming copies and those of the outgoing ones. -/
def osem0 : Bool × Fin 4 × Fin 13 → SemLoc sig
  | (false, s, q) => SemLoc.dma (icell s q)
  | (true, s, q) => SemLoc.dma (ocell s q)

theorem osem0_facts : Pipeline.OwnSemFacts spec0 osem0 where
  isScoped := by decide +kernel
  inj := by decide +kernel
  disj := by decide +kernel

theorem cells_eq (c : Dev nD) :
    (Pipeline.ownSems0 (Ix := Unit) (Name := ℕ) (U := Pipeline.UD sig nD τ) (Lvl := ℕ) (Val := Elt F) (τ := τ) osem0 c : sProp 𝕄)
      = iprop((bigSep Finset.univ fun s => bigSep Finset.univ fun q => semVal ((c : Thread nD τ), SemLoc.dma (icell s q)) 0)
        ∗ bigSep Finset.univ fun s => bigSep Finset.univ fun q => semVal ((c : Thread nD τ), SemLoc.dma (ocell s q)) 0) := by
  unfold Pipeline.ownSems0
  rw [BI.bigSep_univ_prod, BI.bigSep_univ_eq_bigSepL [false, true] (by decide) (by decide)]
  exact congrArg₂ (fun A B : sProp 𝕄 => iprop(A ∗ B)) (BI.bigSep_univ_prod _) (BI.bigSep_univ_prod _)

/-! ## Everything the body keeps, at the start and at the end -/

theorem IFree_all (c : Dev nD) (X : FVec F S26x16384x64 .f32) (sh : Fin 4 → Fin 13 → PosShare TreeShare) :
    iprop(IFree c X sh (sl 0) ∗ IFree c X sh (sl 1) ∗ IFree c X sh (sl 2) ∗ IFree c X sh (sl 3))
      = iprop((bigSep Finset.univ fun s => bigSep Finset.univ fun q => (semVal ((c : Thread nD τ), SemLoc.dma (icell s q)) 0 : sProp 𝕄))
        ∗ (bigSep Finset.univ fun s => bigSep Finset.univ fun q => iprop(∃ f : FVec F S4x26x256x64 .f32, ibL c ↦[slotPart s q]{fullShare} f))
        ∗ bigSep Finset.univ fun s => bigSep Finset.univ fun q => xL c ↦{sh s q} X) := by
  rw [← four_eq (IFree c X sh), ← bigSep_sep', ← bigSep_sep']
  refine congrArg (bigSep Finset.univ) (funext fun s => ?_)
  rw [← bigSep_sep', ← bigSep_sep']
  rfl
theorem OFree_all (c : Dev nD) :
    iprop(OFree (F := F) c (sl 0) ∗ OFree (F := F) c (sl 1) ∗ OFree (F := F) c (sl 2) ∗ OFree (F := F) c (sl 3))
      = iprop((bigSep Finset.univ fun s => bigSep Finset.univ fun q => (semVal ((c : Thread nD τ), SemLoc.dma (ocell s q)) 0 : sProp 𝕄))
        ∗ bigSep Finset.univ fun s => bigSep Finset.univ fun q => iprop(∃ f : FVec F S4x26x256x64 .f32, obL c ↦[slotPart s q]{fullShare} f)) := by
  rw [← four_eq (OFree (F := F) c), ← bigSep_sep']
  refine congrArg (bigSep Finset.univ) (funext fun s => ?_)
  rw [← bigSep_sep']
  rfl

/-- What the launch hands over is the body's state before the first point. -/
theorem start (c : Dev nD) (X O : FVec F S26x16384x64 .f32) (V : FVec F S26x16384x64 .f32) :
    iprop(iprop((∃ f : FVec F S4x26x256x64 .f32, ibL c ↦{fullShare} f) ∗ (∃ f : FVec F S4x26x256x64 .f32, obL c ↦{fullShare} f) ∗ (∃ f : FVec F S208x208 .f32, aL c ↦{fullShare} f))
        ∗ Pipeline.ownSems0 (Ix := Unit) (Name := ℕ) (U := Pipeline.UD sig nD τ) (Lvl := ℕ) (Val := Elt F) (τ := τ) osem0 c
        ∗ (xL c ↦{fullShare} X) ∗ (oL c ↦{fullShare} V))
      ⊢ (midSt c X O shr 0 : sProp 𝕄) := by
  have e : (midSt c X O shr 0 : sProp 𝕄) = iprop(iprop(IFree c X shr (sl 0) ∗ IFree c X shr (sl 1) ∗ IFree c X shr (sl 2) ∗ IFree c X shr (sl 3))
      ∗ (∃ f : FVec F S208x208 .f32, aL c ↦{fullShare} f)
      ∗ iprop(OFree (F := F) c (sl 0) ∗ OFree (F := F) c (sl 1) ∗ OFree (F := F) c (sl 2) ∗ OFree (F := F) c (sl 3)) ∗ BI.emp ∗ todoSt (F := F) c 0) := rfl
  rw [e, IFree_all, OFree_all, cells_eq, share_deal (ℓ := xL c)]
  iintro ⟨⟨⟨%f, Hi⟩, ⟨%g, Ho⟩, Ha⟩, ⟨Hci, Hco⟩, HX, HV⟩
  ihave Hi' := (ib_split c f) $$ Hi
  ihave Ho' := (ob_split c g) $$ Ho
  ihave HV' := (out_split c V) $$ HV
  isplitl [Hci Hi' HX]
  · isplitl [Hci]; · iexact Hci
    isplitl [Hi']; · iexact Hi'
    iexact HX
  isplitl [Ha]; · iexact Ha
  isplitl [Hco Ho']
  · isplitl [Hco]; · iexact Hco
    iexact Ho'
  isplitr; · iempintro
  iexact HV'

/-- The body's state after the last point is what the launch takes back, the result at `O`. -/
theorem finish (c : Dev nD) (X O : FVec F S26x16384x64 .f32) :
    (lastSt c X O shr : sProp 𝕄)
      ⊢ iprop(iprop((∃ f : FVec F S4x26x256x64 .f32, ibL c ↦{fullShare} f) ∗ (∃ f : FVec F S4x26x256x64 .f32, obL c ↦{fullShare} f) ∗ (∃ f : FVec F S208x208 .f32, aL c ↦{fullShare} f))
        ∗ Pipeline.ownSems0 (Ix := Unit) (Name := ℕ) (U := Pipeline.UD sig nD τ) (Lvl := ℕ) (Val := Elt F) (τ := τ) osem0 c
        ∗ (xL c ↦{fullShare} X) ∗ (oL c ↦{fullShare} O)) := by
  unfold lastSt
  rw [IFree_all, OFree_all, cells_eq, share_deal (ℓ := xL c)]
  iintro ⟨⟨Hci, Hi, HX⟩, Ha, ⟨Hco, Ho⟩, HO⟩
  ihave Hi' := (held_gather (ℓ := ibL c) slotAll slotPart slotAll_disj slotPart_disj slotAll_cover slotPart_cover (slotOf X 0)) $$ Hi
  ihave Ho' := (held_gather (ℓ := obL c) slotAll slotPart slotAll_disj slotPart_disj slotAll_cover slotPart_cover (slotOf X 0)) $$ Ho
  ihave HO' := (out_join c O) $$ HO
  isplitl [Hi' Ho' Ha]
  · isplitl [Hi']; · iexact Hi'
    isplitl [Ho']; · iexact Ho'
    iexists accV X 64; iexact Ha
  isplitl [Hci Hco]
  · isplitl [Hci]; · iexact Hci
    iexact Hco
  isplitl [HX]; · iexact HX
  iexact HO'

end Cert.KernelIdeal.Hand
-- ==== Proof.IdealRun.lean ====
module

public import proofs.«01_k».proof.Proof.IdealSplit
public import proofs.«01_k».proof.Proof.Gen.KernelIdeal.Frame
public import Idealize.ShloMosaic.Lib.Pipeline.FrameSuffixV
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The values -/

/-- The argument as the region finds it, and the position rows as the host reshapes them. -/
abbrev argX (c : Dev nD) : FVec F S26x16384x64 .f32 := V m c main_arg0
abbrev argP (c : Dev nD) : FVec F S26x1x64 .f32 := V m c main_call0_v0

/-- The first result: each row of the argument plus the row of its position. -/
def outV (X : FVec F S26x16384x64 .f32) (Y : FVec F S26x1x64 .f32) : FVec F S26x16384x64 .f32 :=
  addf X fun i => Y (ValueIdx.ix3 (i 0) (0 : Fin 1) (i 2))
/-- The array the region leaves the second result in. -/
def lossA (X : FVec F S26x16384x64 .f32) : FVec F S1x1 .f32 := lossV (accV X 64)

/-- What the body writes for a block is the block of the first result. -/
theorem pay10_eq (X : FVec F S26x16384x64 .f32) (Y : FVec F S26x1x64 .f32) (k : ℕ) :
    k0_pay10 (blockOf X k) Y = blockOf (outV X Y) k := by
  funext y
  obtain ⟨u, p, b, d, rfl⟩ : ∃ (u : Fin 1) (p : Fin 26) (b : Fin 256) (d : Fin 64), y = ValueIdx.ix4 u p b d := ⟨_, _, _, _, ValueIdx.eq_ix4 y⟩
  unfold k0_pay10 k0_pay8
  rw [shapeCast_self Y]
  refine (shapeCast_abc_1abc_apply (m := 26) (a := 256) (b := 64) _ _ u p b d).trans ?_
  refine congrArg₂ FloatOps.addf (shapeCast_1abc_abc_apply (m := 26) (a := 256) (b := 64) _ _ p b d) ?_
  refine broadcastTo_apply _ _ (ValueIdx.ix3 p b d) (ValueIdx.ix3 p (0 : Fin 1) d) fun a => ?_
  fin_cases a <;> rfl

/-! ## The proof data of the launch -/

/-- The position rows are staged whole at every point. -/
theorem iblk0_eq (c : Dev nD) (t : Fin cfg0.N) : iblk m c 0 t = argP m c := by
  have e : ∀ t : Fin cfg0.N, win0_0.index t = ![0, 0, 0] := fun t => rfl
  blk_ext! [iblk, V, e t]

/-- On each core: the arrays as the region finds them; the position rows left in place, the loss at the last point; between
    points, everything the body keeps. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => lossA (argX m c)
  Φ j := if j.val < 64 then midSt c (argX m c) (outV (argX m c) (argP m c)) shr j.val else lastSt c (argX m c) (outV (argX m c) (argP m c)) shr
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = lossA (argX m c) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem coord_val : ∀ t : Fin cfg0.N, (grid0.coords t 0).val = t.val := (by decide +kernel : ∀ t : Fin grid0.N, _)

theorem Φ_mid (c : Dev nD) (j : Fin (cfg0.N + 1)) (h : j.val < 64) :
    (dats m 0 c).Φ j = midSt c (argX m c) (outV (argX m c) (argP m c)) shr j.val := by
  dsimp only [dats]; rw [if_pos h]
theorem Φ_last (c : Dev nD) (j : Fin (cfg0.N + 1)) (h : ¬ j.val < 64) :
    (dats m 0 c).Φ j = lastSt c (argX m c) (outV (argX m c) (argP m c)) shr := by
  dsimp only [dats]; rw [if_neg h]

/-! ## The body at a point -/

/-- The loss buffer as the body leaves it at point `t`. -/
def leaves1 (c : Dev nD) (t : Fin cfg0.N) : sProp 𝕄 :=
  match cfg0.idle 1 (cfg0.grid.coords t) with
  | true =>
    match (cfg0.win 1).flush t with
    | false => iprop(∃ d, owns (c : Thread nD τ) (st0_1 t) fullShare ((dats m 0 c).before 1 t d))
    | true => owns (c : Thread nD τ) (st0_1 t) fullShare ((dats m 0 c).after 1 t)
  | false => owns (c : Thread nD τ) (st0_1 t) fullShare ((dats m 0 c).after 1 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ leaves1 m c t)

theorem leaves1_inner (c : Dev nD) (t : Fin cfg0.N) (h : t.val ≠ 63) :
    leaves1 m c t = iprop(∃ d, owns (c : Thread nD τ) (st0_1 t) fullShare ((dats m 0 c).before 1 t d)) := by
  have hi : cfg0.idle 1 (cfg0.grid.coords t) = true := by
    show (!(k0_cond4 (grid0.coords t) == 1#1)) = true
    have hn : ¬ k0_cond4 (grid0.coords t) = 1#1 := fun e => h (coord_val t ▸ (cond4_iff _).1 e)
    simpa using hn
  have hf : (cfg0.win 1).flush t = false := by
    have ht : t.val < 64 := t.isLt
    cases e : (cfg0.win 1).flush t
    · rfl
    · have := (flush0_1 t).1 e; omega
  unfold leaves1; rw [hi, hf]
theorem leaves1_last (c : Dev nD) (t : Fin cfg0.N) (h : t.val = 63) :
    leaves1 m c t = owns (c : Thread nD τ) (st0_1 t) fullShare (lossA (argX m c)) := by
  have hi : cfg0.idle 1 (cfg0.grid.coords t) = false := by
    show (!(k0_cond4 (grid0.coords t) == 1#1)) = false
    have hn : k0_cond4 (grid0.coords t) = 1#1 := (cond4_iff _).2 ((coord_val t).trans h)
    simpa using hn
  unfold leaves1; rw [hi, after0_1]

theorem OW_of (c : Dev nD) (W : Waits sig Unit) : (owes (c : Thread nD τ) 0 W : sProp 𝕄) ⊢ OW c := by
  unfold OW; iintro H; iexists W; iexact H
theorem OW_out (c : Dev nD) : (OW c : sProp 𝕄) ⊢ iprop(∃ W : Waits sig Unit, owes (c : Thread nD τ) 0 W) := by
  unfold OW; exact .rfl

theorem sound_body (c : Dev nD) (t : Fin cfg0.N) :
    bodyPre m c t ⊢ wp frame (wpE (defs₀ (F := F)) Variants.none c none) Set.univ (bodyAt0 t) (fun _ => bodyPost m c t) := by
  have ht : t.val < 64 := t.isLt
  unfold bodyPre bodyPost bodyAt0
  unfold Dat.owesAt Pipeline.owesWithin
  rw [show (dats m 0 c).owed t.castSucc = 0 from rfl, show (dats m 0 c).owed t.succ = 0 from rfl, Φ_mid m c t.castSucc ht, after0_0]
  simp only [before0_0, iblk0_eq]
  by_cases h : t.val = 63
  · rw [leaves1_last m c t h, Φ_last m c t.succ (by show ¬ t.val + 1 < 64; omega), show t.castSucc.val = 63 from h]
    iintro ⟨HΦ, ⟨%W, -, HW⟩, ⟨%d0, H0⟩, ⟨%d1, H1⟩⟩
    iapply (body_last c (grid0.coords t) _ _ _ _ (argX m c) (outV (argX m c) (argP m c)) shr ((coord_val t).trans h) fullShare (argP m c)
      ((dats m 0 c).before 1 t d1) (pay10_eq (argX m c) (argP m c))) $$ [HΦ HW H0 H1]
    · isplitl [HΦ]; · iexact HΦ
      isplitl [HW]; · iapply (OW_of c W); iexact HW
      isplitl [H0]; · iexact H0
      iexact H1
    iintro ⟨HΦ, HO, H0, H1⟩
    ihave HO' := (OW_out c) $$ HO
    icases HO' with ⟨%W', HW'⟩
    isplitl [HΦ]; · iexact HΦ
    isplitl [HW']
    · iexists W'; isplitr; · ipureintro; exact fun _ _ => Or.inl trivial
      iexact HW'
    isplitl [H0]; · iexact H0
    iexact H1
  · rw [leaves1_inner m c t h, Φ_mid m c t.succ (by show t.val + 1 < 64; omega)]
    iintro ⟨HΦ, ⟨%W, -, HW⟩, ⟨%d0, H0⟩, H1⟩
    iapply (body_inner c (grid0.coords t) _ _ _ _ (argX m c) (outV (argX m c) (argP m c)) shr t.val (coord_val t) h fullShare (argP m c)
      (pay10_eq (argX m c) (argP m c))) $$ [HΦ HW H0]
    · isplitl [HΦ]; · iexact HΦ
      isplitl [HW]; · iapply (OW_of c W); iexact HW
      iexact H0
    iintro ⟨HΦ, HO, H0⟩
    ihave HO' := (OW_out c) $$ HO
    icases HO' with ⟨%W', HW'⟩
    isplitl [HΦ]; · iexact HΦ
    isplitl [HW']
    · iexists W'; isplitr; · ipureintro; exact fun _ _ => Or.inl trivial
      iexact HW'
    isplitl [H0]; · iexact H0
    iexact H1

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The buffers the body reads and writes itself. -/
def H0 : Finset (Ref sig .tc) := {main_arg0}
def R0 : Finset (Ref sig .tc) := {main_v0_0}
theorem H0_sub : H0 ⊆ Pipeline.restRefs sig spec0 := by decide
theorem R0_sub : R0 ⊆ Pipeline.restRefs sig spec0 \ H0 := by decide

/-- What the buffers hold that the body writes itself. -/
def outG (c : Dev nD) (b : Ref sig .tc) : Buf (Elt F) ((c : Thread nD τ).loc b) :=
  if h : b = main_v0_0 then h ▸ (outV (argX m c) (argP m c) : FVec F S26x16384x64 .f32) else V m c b
theorem outG_eq (c : Dev nD) : outG m c main_v0_0 = outV (argX m c) (argP m c) := by unfold outG; rw [dif_pos rfl]

theorem ΦDRV0_eq (c : Dev nD) (G : (c : Dev nD) → (b : Ref sig .tc) → Buf (Elt F) ((c : Thread nD τ).loc b)) :
    (Pipeline.ΦDRV osem0 spec0 H0 R0 (V m) G c : sProp 𝕄)
      = iprop(iprop((∃ f : FVec F S4x26x256x64 .f32, ibL c ↦{fullShare} f) ∗ (∃ f : FVec F S4x26x256x64 .f32, obL c ↦{fullShare} f) ∗ (∃ f : FVec F S208x208 .f32, aL c ↦{fullShare} f))
        ∗ Pipeline.ownSems0 (Ix := Unit) (Name := ℕ) (U := Pipeline.UD sig nD τ) (Lvl := ℕ) (Val := Elt F) (τ := τ) osem0 c
        ∗ (xL c ↦{fullShare} argX m c) ∗ (oL c ↦{fullShare} G c main_v0_0)) := by
  unfold Pipeline.ΦDRV H0 R0
  rw [scopedRest0_eq, BI.bigSep_singleton, BI.bigSep_singleton]
  rfl

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What a buffer that is no array of the pipeline holds at the end. -/
def endV (c : Dev nD) : Valuation τ sig (Elt F) :=
  Pipeline.withArrays spec0 c (Pipeline.withR (V0 m c) R0 c (outG m c)) fun w => (dats m 0 c).arrAt w cfg0.N

set_option backward.isDefEq.respectTransparency.types false in
theorem run_main : θ_run defs (onTc (τ := τ) (main (F := F))) (s₀ m ρ) (fun r => (∀ c : Dev nD, ∀ b ∈ Pipeline.restRefs sig spec0,
      r.2.mem ((c.tc : Thread nD τ).loc b) = StableHlo.after hostOps1 (endV m c) (Proc.devRef .tc b)) ∧ r.2.sem = fun _ => 0) :=
  Pipeline.θ_run_frame_dmaR_aroundV cfgs (dats m) (0 : Fin 1) launch0 osem0 defs₀ Variants.none osem0_facts H0 R0 H0_sub R0_sub m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := outG m) (hmain := hmainD m) (hA := A_eq m)
    (hin := fun c => by
      rw [Φ_mid m c 0 (by decide)]
      exact (Entails.of_eq (ΦDRV0_eq m c (V m))).trans (start c (argX m c) _ _))
    (hout := fun c => by
      rw [Φ_last m c (Fin.last cfg0.N) (by decide)]
      refine (finish c (argX m c) _).trans (Entails.of_eq ?_)
      rw [← outG_eq m c]
      exact (ΦDRV0_eq m c (outG m)).symm)
    (Q' := _) (hQ' := fun r h => ⟨fun c b hb => ((h.1 c).2 b hb).trans rfl, h.2⟩)

end Cert.KernelIdeal.Hand
-- ==== Proof.IdealEnds.lean ====
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The host's line after the region writes the second result only. -/
theorem after_other (U : Valuation τ sig (Elt F)) (b : Ref sig .tc) (hb : b ≠ main_v0_1) :
    StableHlo.after (hostOps1 (F := F)) U (Proc.devRef .tc b) = U (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- An argument ends as it was. -/
theorem end_arg (c : Dev nD) (b : Ref sig .tc) (hb : b ≠ main_v0_1) (hw : ∀ w, Pipeline.arrRef spec0 w ≠ b) (hR : b ∉ R0) :
    StableHlo.after hostOps1 (endV m c) (Proc.devRef .tc b) = V m c b := by
  rw [after_other _ b hb]
  unfold endV
  rw [Pipeline.withArrays_of_ne _ c _ _ b hw, Pipeline.withR_of_not_mem _ _ _ _ b hR]

/-- The first result ends as the sum. -/
theorem end_out (c : Dev nD) : StableHlo.after hostOps1 (endV m c) (Proc.devRef .tc main_v0_0) = outV (argX m c) (argP m c) := by
  rw [after_other _ main_v0_0 (by decide)]
  unfold endV
  rw [Pipeline.withArrays_of_ne _ c _ _ main_v0_0 (by decide), Pipeline.withR_of_mem _ _ _ _ main_v0_0 (by decide), outG_eq]

/-- The region leaves the loss in its array. -/
theorem loss_arr (c : Dev nD) : (dats m 0 c).arrAt 1 cfg0.N = lossA (argX m c) := by
  refine (dats m 0 c).arrAt_eq_of_after_last 1 ⟨63, by decide⟩ (by decide +kernel) _ fun j => ?_
  blk_simp
  exact congrFun (after0_1 m c ⟨63, by decide⟩) j

/-- The second result ends as the loss. -/
theorem end_loss (c : Dev nD) :
    StableHlo.after hostOps1 (endV m c) (Proc.devRef .tc main_v0_1) = shapeCast S_ (lossA (argX m c)) shapeCasts_S1x1_S_ := by
  have e : endV m c (Proc.devRef .tc main_call0_v1_1) = lossA (argX m c) :=
    (Pipeline.withArrays_arr spec0 launch0.win.arr_inj c _ _ 1).trans (loss_arr m c)
  rw [← e]
  unfold hostOps1
  simp only [StableHlo.after_cons, StableHlo.after_nil]
  exact StableHlo.reshape_result ..

/-- The program ends with the sum and the loss in its results, the arguments as they were and every counter at zero. -/
theorem run_values : θ_run defs (onTc (τ := τ) (main (F := F))) ⟨m, fun _ => 0, ρ⟩ (fun r => (∀ c : Dev nD,
      r.2.mem ((c.tc : Thread nD τ).loc main_v0_0) = outV (argX m c) (argP m c)
      ∧ r.2.mem ((c.tc : Thread nD τ).loc main_v0_1) = shapeCast S_ (lossA (argX m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
    (h.1 c main_v0_0 (Pipeline.mem_restRefs_of main_v0_0 (by decide) (by decide))).trans (end_out m c),
    (h.1 c main_v0_1 (Pipeline.mem_restRefs_of main_v0_1 (by decide) (by decide))).trans (end_loss m c),
    (h.1 c main_arg0 (Pipeline.mem_restRefs_of main_arg0 (by decide) (by decide))).trans
      ((end_arg m c main_arg0 (by decide) (by decide) (by decide)).trans (V_main_arg0 m c)),
    (h.1 c main_arg1 (Pipeline.mem_restRefs_of main_arg1 (by decide) (by decide))).trans
      ((end_arg m c main_arg1 (by decide) (by decide) (by decide)).trans (V_main_arg1 m c))⟩, h.2⟩) (run_main m ρ)

/-- The frame: the program runs, its arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2, h.2⟩) (run_values m ρ)

end Cert.KernelIdeal.Hand
-- ==== Proof.Cosine.lean ====
/- Cosine similarity over the extended reals: to divide the inner product of two families by the product of their
   norms is the same as to divide each family by its own norm first and take the inner product then. It holds of every
   family, infinite entries included: a family with an infinite entry has an infinite norm, and both sides are zero. -/
module

public import Idealize.ShloMosaic.PureOps.Ideal
public import Idealize.ShloMosaic.PureOps.Ideal.Laws

@[expose] public section

noncomputable section

namespace Cert.Cosine

open Idealize.ShloMosaic

variable {ι : Type} [Fintype ι]

/-- The length of a family plus `e`: the divisor the two programs use. -/
def len (e : EReal) (f : ι → EReal) : EReal := Ideal.sqrt (∑ k, f k * f k) + e

/-- A finite sum of reals, read in the extended reals. -/
theorem coe_sum (f : ι → ℝ) : ((∑ k, f k : ℝ) : EReal) = ∑ k, (f k : EReal) :=
  map_sum (⟨⟨fun r : ℝ => (r : EReal), EReal.coe_zero⟩, EReal.coe_add⟩ : ℝ →+ EReal) f Finset.univ

/-- A square is not negative. -/
theorem mul_self_nonneg (x : EReal) : 0 ≤ x * x := by
  induction x with
  | bot => simp
  | top => simp
  | coe r => rw [← EReal.coe_mul]; exact_mod_cast _root_.mul_self_nonneg r

theorem sum_mul_self_nonneg (f : ι → EReal) : 0 ≤ ∑ k, f k * f k := Finset.sum_nonneg fun k _ => mul_self_nonneg (f k)

/-- The square root of a number that is not negative is not negative. -/
theorem sqrt_nonneg {x : EReal} (h : 0 ≤ x) : 0 ≤ Ideal.sqrt x := by
  induction x with
  | bot => simp at h
  | top => exact le_top
  | coe r =>
    have hr : ¬ r < 0 := not_lt.2 (by exact_mod_cast h)
    rw [Ideal.sqrt_coe, if_neg hr]; exact_mod_cast Real.sqrt_nonneg r

/-- The length plus a positive number is positive. -/
theorem len_pos {e : ℝ} (he : 0 < e) (f : ι → EReal) : 0 < len (e : EReal) f :=
  lt_of_lt_of_le (by exact_mod_cast he) (le_add_of_nonneg_left (sqrt_nonneg (sum_mul_self_nonneg f)))

/-- A family is real, or it has an infinite entry and its length is infinite. -/
theorem real_or_top {e : ℝ} (f : ι → EReal) : (∃ g : ι → ℝ, f = fun k => (g k : EReal)) ∨ len (e : EReal) f = ⊤ := by
  by_cases h : ∀ k, ∃ r : ℝ, f k = r
  · choose g hg using h
    exact .inl ⟨g, funext hg⟩
  · right
    obtain ⟨k, hk⟩ := not_forall.1 h
    have hsq : f k * f k = ⊤ := by
      generalize f k = x at hk ⊢
      induction x with
      | bot => rfl
      | top => rfl
      | coe r => exact absurd ⟨r, rfl⟩ hk
    have hs : ∑ k, f k * f k = ⊤ := by
      refine top_le_iff.1 ?_
      rw [← hsq]
      exact Finset.single_le_sum (f := fun k => f k * f k) (fun i _ => mul_self_nonneg (f i)) (Finset.mem_univ k)
    rw [len, hs]
    exact EReal.top_add_coe e

/-- Over an infinite divisor every quotient is zero. -/
theorem div_top (x : EReal) : Ideal.div x ⊤ = 0 := by
  rw [Ideal.div, if_neg (by simp), EReal.inv_top, mul_zero]

/-- The length of a real family is a positive real. -/
theorem len_coe {e : ℝ} (he : 0 < e) (g : ι → ℝ) : ∃ n : ℝ, 0 < n ∧ len (e : EReal) (fun k => (g k : EReal)) = n := by
  have hs : ∑ k, (g k : EReal) * (g k : EReal) = ((∑ k, g k * g k : ℝ) : EReal) := by
    rw [coe_sum]; exact Finset.sum_congr rfl fun k _ => (EReal.coe_mul _ _).symm
  have h0 : ¬ (∑ k, g k * g k) < 0 := not_lt.2 (Finset.sum_nonneg fun k _ => _root_.mul_self_nonneg (g k))
  refine ⟨Real.sqrt (∑ k, g k * g k) + e, add_pos_of_nonneg_of_pos (Real.sqrt_nonneg _) he, ?_⟩
  rw [len, hs, Ideal.sqrt_coe, if_neg h0, EReal.coe_add]

/-- A quotient of reals, the divisor not zero. -/
theorem div_real {y : ℝ} (hy : y ≠ 0) (x : ℝ) : Ideal.div (x : EReal) (y : EReal) = ((x / y : ℝ) : EReal) := by
  rw [Ideal.div_coe hy, ← EReal.coe_mul, mul_one_div]

/-- The inner product of two families, each divided by its own length. -/
def inner (e : EReal) (f g : ι → EReal) : EReal := ∑ k, Ideal.div (f k) (len e f) * Ideal.div (g k) (len e g)

/-- The normalised inner product of two real families. -/
theorem inner_coe {n n' : ℝ} (hn : n ≠ 0) (hn' : n' ≠ 0) (f g : ι → ℝ) :
    ∑ k, Ideal.div (f k : EReal) (n : EReal) * Ideal.div (g k : EReal) (n' : EReal) = ((∑ k, f k * g k) / (n * n') : ℝ) := by
  rw [Finset.sum_div, coe_sum]
  refine Finset.sum_congr rfl fun k _ => ?_
  rw [div_real hn, div_real hn', ← EReal.coe_mul, div_mul_div_comm]

/-- The inner product divided by the product of the lengths is the inner product of the normalised families. -/
theorem div_len_mul {e : ℝ} (he : 0 < e) (f g : ι → EReal) :
    Ideal.div (∑ k, f k * g k) (len (e : EReal) f * len (e : EReal) g) = inner (e : EReal) f g := by
  rw [inner]
  rcases real_or_top (e := e) f with ⟨f, rfl⟩ | hf
  · rcases real_or_top (e := e) g with ⟨g, rfl⟩ | hg
    · obtain ⟨n, hn, en⟩ := len_coe he f
      obtain ⟨n', hn', en'⟩ := len_coe he g
      rw [en, en', inner_coe hn.ne' hn'.ne', ← EReal.coe_mul]
      have hs : ∑ k, (f k : EReal) * (g k : EReal) = ((∑ k, f k * g k : ℝ) : EReal) := by
        rw [coe_sum]; exact Finset.sum_congr rfl fun k _ => (EReal.coe_mul _ _).symm
      rw [hs, div_real (mul_ne_zero hn.ne' hn'.ne')]
    · rw [hg, EReal.mul_top_of_pos (len_pos he _), div_top]
      exact (Finset.sum_eq_zero fun k _ => by rw [div_top, mul_zero]).symm
  · rw [hf, EReal.top_mul_of_pos (len_pos he _), div_top]
    exact (Finset.sum_eq_zero fun k _ => by rw [div_top, zero_mul]).symm

/-- The normalised inner product of a family with itself is real, so it less itself is zero. -/
theorem inner_sub_self {e : ℝ} (he : 0 < e) (f : ι → EReal) : inner (e : EReal) f f - inner (e : EReal) f f = 0 := by
  have h : ∃ r : ℝ, inner (e : EReal) f f = r := by
    rw [inner]
    rcases real_or_top (e := e) f with ⟨f, rfl⟩ | hf
    · obtain ⟨n, hn, en⟩ := len_coe he f
      rw [en, inner_coe hn.ne' hn.ne']
      exact ⟨_, rfl⟩
    · exact ⟨0, (Finset.sum_eq_zero fun k _ => by rw [hf, div_top, mul_zero]).trans EReal.coe_zero.symm⟩
  obtain ⟨r, hr⟩ := h
  rw [hr, ← EReal.coe_sub, sub_self, EReal.coe_zero]

/-- The small number the programs add to a length is a positive real. -/
theorem eps_pos : ∃ e : ℝ, 0 < e ∧ Ideal.ofBits .f32 0x322BCC77#32 = (e : EReal) := by
  refine ⟨(2 ^ 23 + 2870391 : ℕ) * (2 : ℝ) ^ (-50 : ℤ), by positivity, ?_⟩
  simp [Ideal.ofBits, Ideal.ieee]

end Cert.Cosine

end
-- ==== Proof.Rows.lean ====
/- What both programs compute of the loss, written once: the argument's rows, each flattened, and the mean square of the
   cosine similarities of the pairs of different rows. -/
module

public import proofs.«01_k».proof.Proof.Cosine
public import Idealize.ShloMosaic.Lib.ValueIdx

@[expose] public section

noncomputable section

namespace Cert.Rows

open Idealize.ShloMosaic

/-- The argument: 26 parts of 16384 rows of 64 numbers. -/
abbrev Arg : Type := (⟨3, ![26, 16384, 64]⟩ : Shape).Idx → EReal

/-- Part `p` of the argument as one list of 16384 · 64 numbers. -/
def row (X : Arg) (p : Fin 26) (k : Fin 1048576) : EReal :=
  X (ValueIdx.ix3 p (⟨k.val / 64, by omega⟩ : Fin 16384) (⟨k.val % 64, by omega⟩ : Fin 64))

/-- The small number added to each length. -/
def eps : EReal := Ideal.ofBits .f32 0x322BCC77#32

/-- The cosine similarity of two parts. -/
def cosine (X : Arg) (p q : Fin 26) : EReal := Cosine.inner eps (row X p) (row X q)

/-- The loss: the squares of the similarities of different parts, summed, times the weight, over the number of pairs. -/
def loss (X : Arg) : EReal :=
  Ideal.div (Ideal.ofBits .f32 0x3DCCCCCD#32 * ∑ p : Fin 26, ∑ q : Fin 26, if p = q then 0 else cosine X p q * cosine X p q)
    (Ideal.ofBits .f32 0x44228000#32)

/-- A similarity less itself is zero. -/
theorem cosine_sub_self (X : Arg) (p : Fin 26) : cosine X p p - cosine X p p = 0 := by
  obtain ⟨e, he, h⟩ := Cosine.eps_pos
  rw [cosine, eps, h]
  exact Cosine.inner_sub_self he _

/-- The inner product of two parts over the product of their lengths is their similarity. -/
theorem div_len (X : Arg) (p q : Fin 26) :
    Ideal.div (∑ k, row X p k * row X q k) (Cosine.len eps (row X p) * Cosine.len eps (row X q)) = cosine X p q := by
  obtain ⟨e, he, h⟩ := Cosine.eps_pos
  rw [cosine, eps, h]
  exact Cosine.div_len_mul he _ _

/-- The comparison of two part numbers, as words, picks by their equality. -/
theorem select_eq {α : Type} (p q : Fin 26) (a b : α) :
    Scalar.select (IntOp.cmpi .eq (BitVec.ofNat 32 p.val) (BitVec.ofNat 32 q.val)) a b = if p = q then a else b := by
  have h : ∀ p q : Fin 26, IntOp.cmpi .eq (BitVec.ofNat 32 p.val) (BitVec.ofNat 32 q.val) = if p = q then 1#1 else 0#1 := by
    decide +kernel
  rw [h]
  split <;> rfl

end Cert.Rows

end
-- ==== Proof.Gram.lean ====
/- What the kernel's accumulator holds. A block of 256 rows of the 26 parts is read as 208 = 26 · 8 rows of 2048 numbers,
   and its product with itself is added up over the 64 blocks. Of the result the entries whose two rows have the same
   place among the 8 of their parts add up to the inner products of the parts. -/
module

public import proofs.«01_k».proof.Proof.IdealStep
public import proofs.«01_k».proof.Proof.Rows
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-- Entry `x` of accumulator row `r` in block `t`: a number of part `r / 8`, the block's eighth `r % 8`. -/
def cell (X : Rows.Arg) (t : Fin 64) (r : Fin 208) (x : Fin 2048) : EReal :=
  Rows.row X ⟨r.val / 8, by omega⟩ ⟨t.val * 16384 + (r.val % 8 * 2048 + x.val), by omega⟩

/-- One block: the product of the 208 rows with themselves is added. -/
theorem pay9_apply (v : FVec Ideal S1x26x256x64 .f32) (acc : FVec Ideal S208x208 .f32) (r s : Fin 208) :
    k0_pay9 (F := Ideal) v acc (ix2 r s) = acc (ix2 r s) + ∑ x : Fin 2048,
      v (ix4 (0 : Fin 1) (⟨r.val / 8, by omega⟩ : Fin 26) (⟨r.val % 8 * 32 + x.val / 64, by omega⟩ : Fin 256) (⟨x.val % 64, by omega⟩ : Fin 64))
        * v (ix4 (0 : Fin 1) (⟨s.val / 8, by omega⟩ : Fin 26) (⟨s.val % 8 * 32 + x.val / 64, by omega⟩ : Fin 256) (⟨x.val % 64, by omega⟩ : Fin 64)) := by
  pointwise [k0_pay9, k0_pay8]

/-- An entry of a block, by its place in the part. -/
theorem blockOf_apply (X : FVec Ideal S26x16384x64 .f32) (t : Fin 64) (r : Fin 208) (x : Fin 2048) :
    blockOf X t.val (ix4 (0 : Fin 1) (⟨r.val / 8, by omega⟩ : Fin 26) (⟨r.val % 8 * 32 + x.val / 64, by omega⟩ : Fin 256) (⟨x.val % 64, by omega⟩ : Fin 64))
      = cell X t r x := by
  have h1 : (Fin.ofNat 16384 (256 * t.val + (r.val % 8 * 32 + x.val / 64)) : Fin 16384)
      = ⟨(t.val * 16384 + (r.val % 8 * 2048 + x.val)) / 64, by omega⟩ := by
    refine Fin.ext ?_
    show (256 * t.val + (r.val % 8 * 32 + x.val / 64)) % 16384 = (t.val * 16384 + (r.val % 8 * 2048 + x.val)) / 64
    omega
  have h2 : (⟨x.val % 64, by omega⟩ : Fin 64) = ⟨(t.val * 16384 + (r.val % 8 * 2048 + x.val)) % 64, by omega⟩ := Fin.ext (by show x.val % 64 = (t.val * 16384 + (r.val % 8 * 2048 + x.val)) % 64; omega)
  show X (ix3 (⟨r.val / 8, _⟩ : Fin 26) (Fin.ofNat 16384 (256 * t.val + (r.val % 8 * 32 + x.val / 64))) (⟨x.val % 64, _⟩ : Fin 64)) = _
  rw [h1, h2]
  rfl

/-- The accumulator after `n` blocks. -/
theorem accV_apply (X : FVec Ideal S26x16384x64 .f32) (r s : Fin 208) : ∀ n (hn : n ≤ 64),
    accV X n (ix2 r s) = ∑ t : Fin n, ∑ x : Fin 2048, cell X (t.castLE hn) r x * cell X (t.castLE hn) s x
  | 0, _ => by
    show k0_pay2 (F := Ideal) (ix2 r s) = _
    pointwise [k0_pay2]
    rfl
  | n + 1, hn => by
    have ih := accV_apply X r s n (Nat.le_of_succ_le hn)
    rw [Fin.sum_univ_castSucc]
    show k0_pay9 (F := Ideal) (blockOf X n) (accV X n) (ix2 r s) = _
    rw [pay9_apply, ih]
    refine congrArg₂ (· + ·) rfl (Finset.sum_congr rfl fun x _ => ?_)
    exact congrArg₂ (· * ·) (blockOf_apply X ⟨n, hn⟩ r x) (blockOf_apply X ⟨n, hn⟩ s x)

/-- Accumulator row `u` of part `p`. -/
def sub (p : Fin 26) (u : Fin 8) : Fin 208 := ⟨p.val * 8 + u.val, by omega⟩

/-- Over the eight rows of two parts, the accumulator's entries at equal places add up to the parts' inner product. -/
theorem accV_sum (X : FVec Ideal S26x16384x64 .f32) (p q : Fin 26) :
    ∑ u : Fin 8, accV X 64 (ix2 (sub p u) (sub q u)) = ∑ k, Rows.row X p k * Rows.row X q k := by
  have hc : ∀ (a : Fin 26) (t : Fin 64) (u : Fin 8) (x : Fin 2048), cell X t (sub a u) x
      = Rows.row X a ⟨t.val * 16384 + (u.val * 2048 + x.val), by omega⟩ := fun a t u x => by
    have h1 : (⟨(sub a u).val / 8, by omega⟩ : Fin 26) = a := Fin.ext (by show (a.val * 8 + u.val) / 8 = a.val; omega)
    have h2 : (sub a u).val % 8 = u.val := by show (a.val * 8 + u.val) % 8 = u.val; omega
    unfold cell
    simp only [h1, h2]
  rw [Fin.sum_univ_tiles 64 16384 rfl]
  refine (Finset.sum_congr rfl fun u _ => accV_apply X (sub p u) (sub q u) 64 le_rfl).trans ?_
  rw [Finset.sum_comm]
  refine Finset.sum_congr rfl fun t _ => ?_
  rw [Fin.sum_univ_tiles 8 2048 rfl]
  refine Finset.sum_congr rfl fun u _ => Finset.sum_congr rfl fun x _ => ?_
  rw [hc, hc]
  rfl

end Cert.KernelIdeal.Hand

end
-- ==== Proof.Epilogue.lean ====
/- What the last point makes of the accumulator: the entries at equal places are kept, the eight rows of each part are
   added, which gives the inner products of the parts; these over the lengths read off the diagonal are the similarities,
   and the loss follows. -/
module

public import proofs.«01_k».proof.Proof.Gram

@[expose] public section

set_option maxRecDepth 16384

noncomputable section

namespace Cert.KernelIdeal.Hand

open Cert.KernelIdeal Cert.KernelIdeal.Gen
open Idealize.ShloMosaic Idealize.ShloMosaic.TcCoe Idealize.SL.Sem

/-- The word the kernel computes as a row's place among the eight of its part. -/
def placeW (b : BitVec 32) : BitVec 32 :=
  let e := Scalar.select (Scalar.cmpi .eq 8#32 0#32) 1#32 8#32
  let r := IntOp.remsi .vector b e
  Scalar.select (IntOp.andi (IntOp.xori (IntOp.cmpi .slt r 0#32) (Scalar.cmpi .slt e 0#32)) (IntOp.cmpi .ne r 0#32)) (IntOp.addi r e) r

/-- The word the kernel computes as a row's part. -/
def partW (b : BitVec 32) : BitVec 32 :=
  Scalar.select (IntOp.andi
      (IntOp.cmpi .ne (IntOp.subi (BitVec.setWidth 32 (IntOp.cmpi .sgt b 0#32)) (BitVec.setWidth 32 (IntOp.cmpi .slt b 0#32)))
        (Scalar.subi (Scalar.extui (Scalar.cmpi .sgt 8#32 0#32)) (Scalar.extui (Scalar.cmpi .slt 8#32 0#32))))
      (IntOp.cmpi .ne (IntOp.remsi .vector b 8#32) 0#32))
    (IntOp.subi (IntOp.divsi .vector b 8#32) 1#32) (IntOp.divsi .vector b 8#32)

theorem placeW_eq : ∀ r : Fin 208, placeW (BitVec.ofNat 32 r.val) = BitVec.ofNat 32 (r.val % 8) := by decide +kernel
theorem partW_eq : ∀ r : Fin 208, partW (BitVec.ofNat 32 r.val) = BitVec.ofNat 32 (r.val / 8) := by decide +kernel

/-- One where row `x` belongs to part `p`, zero elsewhere. -/
def mem (p : Fin 26) (x : Fin 208) : EReal :=
  FloatOps.sitofp (F := Ideal) .f32 (BitVec.setWidth 32 (IntOp.cmpi .eq (BitVec.ofNat 32 p.val) (partW (BitVec.ofNat 32 x.val))))

theorem mem_sub (p a : Fin 26) (u : Fin 8) : mem p (sub a u) = if p = a then 1 else 0 := by
  have h : ∀ p q : Fin 26, BitVec.setWidth 32 (IntOp.cmpi .eq (BitVec.ofNat 32 p.val) (BitVec.ofNat 32 q.val)) = if p = q then 1#32 else 0#32 := by
    decide +kernel
  have e : (sub a u).val / 8 = a.val := by show (a.val * 8 + u.val) / 8 = a.val; omega
  rw [mem, partW_eq, e, h]
  split
  · show (((1#32).toInt : ℝ) : EReal) = 1
    simp
  · show (((0#32).toInt : ℝ) : EReal) = 0
    simp

/-- To weigh the rows by a part's indicator and add is to add over the part's eight rows. -/
theorem collapse (p : Fin 26) (f : Fin 208 → EReal) : ∑ x, mem p x * f x = ∑ u : Fin 8, f (sub p u) := by
  rw [Fin.sum_univ_tiles 26 8 rfl]
  have h : ∀ a : Fin 26, ∑ u : Fin 8, mem p (sub a u) * f (sub a u) = if p = a then ∑ u : Fin 8, f (sub a u) else 0 := fun a => by
    simp only [mem_sub]
    split <;> simp
  refine (Finset.sum_congr rfl fun a _ => h a).trans ?_
  rw [Finset.sum_ite_eq, if_pos (Finset.mem_univ p)]

/-- The kept entries: those at equal places. -/
theorem pay3_apply (acc : FVec Ideal S208x208 .f32) (a b : Fin 26) (u w : Fin 8) :
    k0_pay3 (F := Ideal) acc (ix2 (sub a u) (sub b w)) = if u = w then acc (ix2 (sub a u) (sub b w)) else (0 : EReal) := by
  have h : ∀ u w : Fin 8, IntOp.cmpi .eq (BitVec.ofNat 32 u.val) (BitVec.ofNat 32 w.val) = if u = w then 1#1 else 0#1 := by
    decide +kernel
  have e : ∀ (a : Fin 26) (u : Fin 8), (sub a u).val % 8 = u.val := fun a u => by show (a.val * 8 + u.val) % 8 = u.val; omega
  pointwise [k0_pay3]
  show Scalar.select (IntOp.cmpi .eq (placeW (BitVec.ofNat 32 (sub a u).val)) (placeW (BitVec.ofNat 32 (sub b w).val))) (acc (ix2 (sub a u) (sub b w))) (0 : EReal) = _
  rw [placeW_eq, placeW_eq, e, e, h]
  split <;> rfl

/-- The inner products, from the masked accumulator, by the two products with the indicator. -/
def dots (M : FVec Ideal S208x208 .f32) (p q : Fin 26) : EReal := ∑ x : Fin 208, (∑ y : Fin 208, mem p y * M (ix2 y x)) * mem q x

theorem dots_eq (M : FVec Ideal S208x208 .f32) (p q : Fin 26) : dots M p q = ∑ w : Fin 8, ∑ u : Fin 8, M (ix2 (sub p u) (sub q w)) := by
  unfold dots
  refine (Finset.sum_congr rfl fun x _ => mul_comm _ _).trans ?_
  rw [collapse q fun x => ∑ y : Fin 208, mem p y * M (ix2 y x)]
  exact Finset.sum_congr rfl fun w _ => collapse p fun y => M (ix2 y (sub q w))

/-- Of the accumulator of all blocks they are the parts' inner products. -/
theorem dots_acc (X : FVec Ideal S26x16384x64 .f32) (p q : Fin 26) :
    dots (k0_pay3 (F := Ideal) (accV X 64)) p q = ∑ k, Rows.row X p k * Rows.row X q k := by
  rw [dots_eq, ← accV_sum]
  refine Finset.sum_congr rfl fun w _ => ?_
  simp only [pay3_apply]
  rw [Finset.sum_ite_eq', if_pos (Finset.mem_univ w)]

/-- The inner products over the products of the lengths, the lengths read off the diagonal. -/
theorem pay7_apply (M : FVec Ideal S208x208 .f32) (p q : Fin 26) :
    k0_pay7 (F := Ideal) M (iota .tc S26x208 32 [0] iota_S26x208_d0_w32) (iota .tc S26x208 32 [1] iota_S26x208_d1_w32) 8#32 k0_pay4 k0_pay5 (ix2 p q)
      = Ideal.div (dots M p q) ((Ideal.sqrt (dots M p p) + Rows.eps) * (Ideal.sqrt (dots M q q) + Rows.eps)) := by
  pointwise [k0_pay7, k0_pay4, k0_pay5, k0_pay6]
  have hr : (∑ x : Fin 26, Scalar.select (IntOp.cmpi .eq (BitVec.ofNat 32 p.val) (BitVec.ofNat 32 x.val)) (dots M p x) (0 : EReal)) = dots M p p := by
    simp only [Rows.select_eq]
    rw [Finset.sum_ite_eq, if_pos (Finset.mem_univ p)]
  have hc : (∑ x : Fin 26, Scalar.select (IntOp.cmpi .eq (BitVec.ofNat 32 x.val) (BitVec.ofNat 32 q.val)) (dots M x q) (0 : EReal)) = dots M q q := by
    simp only [Rows.select_eq]
    rw [Finset.sum_ite_eq', if_pos (Finset.mem_univ q)]
  show Ideal.div (dots M p q)
    ((Ideal.sqrt (∑ x : Fin 26, Scalar.select (IntOp.cmpi .eq (BitVec.ofNat 32 p.val) (BitVec.ofNat 32 x.val)) (dots M p x) (0 : EReal)) + Rows.eps)
      * (Ideal.sqrt (∑ x : Fin 26, Scalar.select (IntOp.cmpi .eq (BitVec.ofNat 32 x.val) (BitVec.ofNat 32 q.val)) (dots M x q) (0 : EReal)) + Rows.eps)) = _
  rw [hr, hc]

/-- The loss from the similarities. -/
theorem pay1_apply (G : FVec Ideal S26x26 .f32) (i : S1x1.Idx) :
    k0_pay1 k0_pay6 G i = Ideal.div (Ideal.ofBits .f32 0x3DCCCCCD#32 * ∑ p : Fin 26, ∑ q : Fin 26, if p = q then 0 else G (ix2 p q) * G (ix2 p q)) (Ideal.ofBits .f32 0x44228000#32) := by
  pointwise [k0_pay1, k0_pay6]
  simp only [Rows.select_eq]

/-- The kernel's second result is the loss. -/
theorem lossV_acc (X : FVec Ideal S26x16384x64 .f32) (i : S1x1.Idx) : lossV (accV X 64) i = Rows.loss X := by
  have h : ∀ p q : Fin 26, k0_pay7 (F := Ideal) (k0_pay3 (accV X 64)) (iota .tc S26x208 32 [0] iota_S26x208_d0_w32) (iota .tc S26x208 32 [1] iota_S26x208_d1_w32) 8#32 k0_pay4 k0_pay5 (ix2 p q)
      = Rows.cosine X p q := fun p q => by
    rw [pay7_apply, dots_acc, dots_acc, dots_acc]
    exact Rows.div_len X p q
  rw [lossV, pay1_apply]
  simp only [h]
  rfl

end Cert.KernelIdeal.Hand

end
-- ==== Proof.Results.lean ====
/- The kernel's two results, as functions of its arguments: the argument plus the position rows, and the loss. -/
module

public import proofs.«01_k».proof.Proof.IdealEnds
public import proofs.«01_k».proof.Proof.Epilogue

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The region reads the argument as it was at the start. -/
theorem argX_eq (c : Dev nD) : argX m c = m ((c : Thread nD τ).loc main_arg0) := V_main_arg0 m c

/-- The position rows as the region reads them: the table, reshaped. -/
theorem argP_eq (c : Dev nD) : argP m c = (shapeCast S26x1x64 (m ((c : Thread nD τ).loc main_arg1)) shapeCasts_S26x64_S26x1x64 : FVec Ideal S26x1x64 .f32) := by
  unfold argP V V0
  simp only [hostOps0, List.flatten_cons, List.flatten_nil, List.append_nil, StableHlo.after_cons, StableHlo.after_nil]
  exact StableHlo.reshape_result ..

/-- An element of the first result: the argument's plus the table's. -/
theorem outV_apply (X : FVec Ideal S26x16384x64 .f32) (Y : FVec Ideal S26x64 .f32) (p : Fin 26) (b : Fin 16384) (d : Fin 64) :
    outV X (shapeCast S26x1x64 Y shapeCasts_S26x64_S26x1x64) (ValueIdx.ix3 p b d) = X (ValueIdx.ix3 p b d) + Y (ValueIdx.ix2 p d) := by
  pointwise [outV]
  rfl

/-- The array of the second result holds the loss. -/
theorem lossA_eq (X : FVec Ideal S26x16384x64 .f32) : lossA X = fun _ => Rows.loss X := funext (lossV_acc X)

/-- The second result is the loss. -/
theorem loss_result (c : Dev nD) :
    (shapeCast S_ (lossA (argX m c)) shapeCasts_S1x1_S_ : FVec Ideal S_ .f32) = fun _ => Rows.loss (m ((c : Thread nD τ).loc main_arg0)) := by
  rw [argX_eq, lossA_eq]
  rfl

end Cert.KernelIdeal.Hand

end
-- ==== Proof.RefValue.lean ====
/- What the reference computes: its first result is the argument plus the position rows, its second the loss. -/
module

public import proofs.«01_k».proof.Proof.Gen.ReferenceIdeal.Run
public import proofs.«01_k».proof.Proof.Rows
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The parts, flattened, each over its length. -/
def unit (X : FVec Ideal S26x16384x64 .f32) : FVec Ideal S26x1048576 .f32 :=
  Host.divf (shapeCast _ X shapeCasts_S26x16384x64_S26x1048576) (broadcastInDim S26x1048576 ![0, 1] bcast_S26x1_S26x1048576_0_1 (addf (Host.sqrt (broadcastInDim S26x1 ![0] bcast_S26_S26x1_0 (Host.reduceAdd (mulf (shapeCast _ X shapeCasts_S26x16384x64_S26x1048576) (shapeCast _ X shapeCasts_S26x16384x64_S26x1048576)) (constant S_ .f32 0x00000000#32) reducesTo_S26x1048576_S26_d1 h_S_))) (broadcastInDim S26x1 ![] bcast_S_S26x1 (constant S_ .f32 0x322BCC77#32))))

/-- Their inner products. -/
def gram (X : FVec Ideal S26x16384x64 .f32) : FVec Ideal S26x26 .f32 :=
  Host.dotGeneral dot_S26x1048576_S1048576x26_S26x26_1_0_0_1_n_n none (unit X) (transpose S1048576x26 [1, 0] (unit X) transposes_S26x1048576_S1048576x26_1_0)

/-- An entry of a normalised part. -/
theorem unit_apply (X : FVec Ideal S26x16384x64 .f32) (p : Fin 26) (k : Fin 1048576) :
    unit X (ix2 p k) = Ideal.div (Rows.row X p k) (Cosine.len Rows.eps (Rows.row X p)) := by
  pointwise [unit]
  rfl

/-- An inner product is the parts' similarity. -/
theorem gram_apply (X : FVec Ideal S26x16384x64 .f32) (p q : Fin 26) : gram X (ix2 p q) = Rows.cosine X p q := by
  pointwise [gram]
  simp only [unit_apply]
  rfl

/-- The second result from the inner products. -/
def tail (G : FVec Ideal S26x26 .f32) : FVec Ideal S_ .f32 :=
  Host.divf (mulf (constant S_ .f32 0x3DCCCCCD#32) (Host.reduceAdd (mulf
    (subf G (select (cmpi .eq (broadcastInDim S26x26 ![0, 1] bcast_S26x1_S26x26_0_1 (broadcastInDim S26x1 ![0] bcast_S26_S26x1_0 (iotaInDim S26 32 0))) (broadcastInDim S26x26 ![0, 1] bcast_S1x26_S26x26_0_1 (broadcastInDim S1x26 ![1] bcast_S26_S1x26_1 (iotaInDim S26 32 0)))) G (broadcastInDim S26x26 ![] bcast_S_S26x26 (id (constant S_ .f32 0x00000000#32)))))
    (subf G (select (cmpi .eq (broadcastInDim S26x26 ![0, 1] bcast_S26x1_S26x26_0_1 (broadcastInDim S26x1 ![0] bcast_S26_S26x1_0 (iotaInDim S26 32 0))) (broadcastInDim S26x26 ![0, 1] bcast_S1x26_S26x26_0_1 (broadcastInDim S1x26 ![1] bcast_S26_S1x26_1 (iotaInDim S26 32 0)))) G (broadcastInDim S26x26 ![] bcast_S_S26x26 (id (constant S_ .f32 0x00000000#32))))))
    (constant S_ .f32 0x00000000#32) reducesTo_S26x26_S_d0_1 h_S_)) (constant S_ .f32 0x44228000#32)

/-- The second result, from any matrix of inner products: the diagonal less itself, the rest as it is. -/
theorem tail_apply (G : FVec Ideal S26x26 .f32) (i : S_.Idx) (h : ∀ p : Fin 26, G (ix2 p p) - G (ix2 p p) = 0) :
    tail G i = Ideal.div (Ideal.ofBits .f32 0x3DCCCCCD#32 * ∑ p : Fin 26, ∑ q : Fin 26, if p = q then 0 else G (ix2 p q) * G (ix2 p q)) (Ideal.ofBits .f32 0x44228000#32) := by
  pointwise [tail, id]
  refine congrArg (fun s => Ideal.div (_ * s) _) (Finset.sum_congr rfl fun p _ => Finset.sum_congr rfl fun q _ => ?_)
  rw [Rows.select_eq]
  by_cases e : p = q
  · subst e
    rw [if_pos rfl, if_pos rfl, h, mul_zero]
  · rw [if_neg e, if_neg e, sub_zero]

variable (m : (ℓ : Loc nD τ sig) → Buf (Elt Ideal) ℓ)

theorem res_eq (c : Dev nD) : Value.res_main_v25 m c = tail (gram (m ((c.tc : Thread nD τ).loc main_arg0))) := by
  unfold Value.res_main_v25 tail gram unit
  rfl

/-- The reference's second result is the loss. -/
theorem loss_eq (c : Dev nD) : Value.res_main_v25 m c = fun _ : S_.Idx => Rows.loss (m ((c.tc : Thread nD τ).loc main_arg0)) := by
  rw [res_eq]
  funext i
  rw [tail_apply _ _ fun p => by rw [gram_apply]; exact Rows.cosine_sub_self _ p]
  simp only [gram_apply]
  rfl

end Cert.ReferenceIdeal.Hand

end
-- ==== Proof.RefOut.lean ====
/- The reference's first result: the argument plus, in each part, the position row of its number. -/
module

public import proofs.«01_k».proof.Proof.Gen.ReferenceIdeal.Run
public import Idealize.ShloMosaic.Lib.Pointwise
public import Idealize.ShloMosaic.Lib.Routing.Ops

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The part numbers the position rows are taken at: 0 to 25, a negative one wrapped. -/
def nums : IVec S26x1 32 :=
  broadcastInDim S26x1 ![0] bcast_S26_S26x1_0 (select (cmpi .slt (iotaInDim S26 32 0) (broadcastInDim S26 ![] bcast_S_S26 (constantI S_ 32 0#32))) (addi (iotaInDim S26 32 0) (broadcastInDim S26 ![] bcast_S_S26 (constantI S_ 32 26#32))) (iotaInDim S26 32 0))

/-- Which of them name a row of the table. -/
def inside : IVec S26 1 :=
  Host.reduce IntOp.andi (andi (cmpi .sge nums (broadcastInDim S26x1 ![] bcast_S_S26x1 (constantI S_ 32 0#32))) (cmpi .sle nums (broadcastInDim S26x1 ![0, 1] bcast_S1x1_S26x1_0_1 (broadcastInDim S1x1 ![1] bcast_S1_S1x1_1 (constantI S1 32 25#32))))) (constantI S_ 1 1#1) reducesTo_S26x1_S26_d1 h_S_

/-- The rows taken, and the first result. -/
def taken (Y : FVec Ideal S26x64 .f32) : FVec Ideal S26x64 .f32 :=
  select (broadcastInDim S26x64 ![0] bcast_S26_S26x64_0 inside) (Host.gather gather_S26x64_S26x1_S26x64_1_0_n_n_0_1_164 Y nums) (broadcastInDim S26x64 ![] bcast_S_S26x64 (constant S_ .f32 0x7FC00000#32))
def sumOut (X : FVec Ideal S26x16384x64 .f32) (Y : FVec Ideal S26x64 .f32) : FVec Ideal S26x16384x64 .f32 :=
  addf X (broadcastInDim S26x16384x64 ![0, 1, 2] bcast_S26x1x64_S26x16384x64_0_1_2 (broadcastInDim S26x1x64 ![0, 2] bcast_S26x64_S26x1x64_0_2 (taken Y)))

theorem nums_apply (p : Fin 26) (z : Fin 1) : nums (ix2 p z) = BitVec.ofNat 32 p.val := by
  pointwise [nums]
  exact (by decide +kernel : ∀ p : Fin 26, Scalar.select (IntOp.cmpi .slt (BitVec.ofNat 32 p.val) 0#32) (IntOp.addi (BitVec.ofNat 32 p.val) 26#32) (BitVec.ofNat 32 p.val) = BitVec.ofNat 32 p.val) p

theorem inside_apply (p : Fin 26) : inside (ix1 p) = 1#1 := by
  pointwise [inside]
  simp only [nums_apply]
  exact (by decide +kernel : ∀ p : Fin 26, Finset.fold IntOp.andi 1#1 (fun _ : Fin 1 => IntOp.andi (IntOp.cmpi .sge (BitVec.ofNat 32 p.val) 0#32) (IntOp.cmpi .sle (BitVec.ofNat 32 p.val) 25#32)) Finset.univ = 1#1) p

/-- The row taken for a part is its own. -/
theorem taken_apply (Y : FVec Ideal S26x64 .f32) (p : Fin 26) (d : Fin 64) : taken Y (ix2 p d) = Y (ix2 p d) := by
  pointwise [taken]
  rw [inside_apply]
  refine Eq.trans rfl (Routing.gather_row gather_S26x64_S26x1_S26x64_1_0_n_n_0_1_164 rfl rfl rfl rfl rfl Y nums p d p (nums_apply p 0) (by decide))

theorem sumOut_apply (X : FVec Ideal S26x16384x64 .f32) (Y : FVec Ideal S26x64 .f32) (p : Fin 26) (b : Fin 16384) (d : Fin 64) :
    sumOut X Y (ix3 p b d) = X (ix3 p b d) + Y (ix2 p d) := by
  pointwise [sumOut]
  rw [taken_apply]

end Cert.ReferenceIdeal.Hand

end
-- ==== Proof.lean ====
/- The certificate: the launch proofs of the kernel at both readings, the reference's run, and the equation of the
   two programs' results, put together. -/
module

public import proofs.«01_k».proof.Defs
public import proofs.«01_k».proof.Proof.Ends
public import proofs.«01_k».proof.Proof.IdealEnds
public import proofs.«01_k».proof.Proof.Results
public import proofs.«01_k».proof.Proof.RefValue
public import proofs.«01_k».proof.Proof.RefOut
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The reference terminates and leaves its arguments unchanged. -/
theorem reference_frame : @Cert.quiescent_ReferenceIdeal Cert.ReferenceIdeal.Gen.facts := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- The two first results are one array: the argument plus the position row of each part. -/
theorem out_eq (m : (ℓ : Loc Cert.KernelIdeal.nD Cert.KernelIdeal.τ Cert.KernelIdeal.sig) → Buf (Elt Ideal) ℓ) (c : Dev Cert.KernelIdeal.nD)
    (X : FVec Ideal Cert.ReferenceIdeal.S26x16384x64 .f32) (Y : FVec Ideal Cert.ReferenceIdeal.S26x64 .f32)
    (hX : X = m ((c.tc : Thread Cert.KernelIdeal.nD Cert.KernelIdeal.τ).loc Cert.KernelIdeal.main_arg0))
    (hY : Y = m ((c.tc : Thread Cert.KernelIdeal.nD Cert.KernelIdeal.τ).loc Cert.KernelIdeal.main_arg1)) :
    Cert.ReferenceIdeal.Hand.sumOut X Y = Cert.KernelIdeal.Hand.outV (Cert.KernelIdeal.Hand.argX m c) (Cert.KernelIdeal.Hand.argP m c) := by
  funext i
  rw [ValueIdx.eq_ix3 i]
  refine (Cert.ReferenceIdeal.Hand.sumOut_apply X Y (i 0) (i 1) (i 2)).trans ?_
  rw [Cert.KernelIdeal.Hand.argX_eq, Cert.KernelIdeal.Hand.argP_eq, hX, hY]
  exact (Cert.KernelIdeal.Hand.outV_apply _ _ (i 0) (i 1) (i 2)).symm

/-- From the same arguments the kernel and the reference end with the same two results. -/
theorem algebraic : @Cert.algebraic_KernelIdeal_ReferenceIdeal Cert.KernelIdeal.Gen.facts Cert.ReferenceIdeal.Gen.facts := by
  intro m g m' g' _ hargs
  refine ⟨fun c => Cert.KernelIdeal.Hand.outV (Cert.KernelIdeal.Hand.argX m c) (Cert.KernelIdeal.Hand.argP m c),
    fun c => shapeCast Cert.KernelIdeal.S_ (Cert.KernelIdeal.Hand.lossA (Cert.KernelIdeal.Hand.argX m c)) Cert.KernelIdeal.Gen.shapeCasts_S1x1_S_,
    (θ_run Cert.KernelIdeal.defs _ _).mono (fun _ h => h.1) (Cert.KernelIdeal.Hand.run_values (F := Ideal) m g), ?_⟩
  refine (θ_run Cert.ReferenceIdeal.defs _ _).mono (fun _ h c => ⟨(h c).1.trans ?_, (h c).2.1.trans ?_, (h c).2.2⟩)
    (Cert.ReferenceIdeal.Value.run (F := Ideal) m' g')
  · exact out_eq m c _ _ (hargs c).1 (hargs c).2
  · rw [Cert.ReferenceIdeal.Hand.loss_eq]
    refine Eq.trans ?_ (Cert.KernelIdeal.Hand.loss_result m c).symm
    exact congrArg (fun X : Cert.Rows.Arg => fun _ : Cert.KernelIdeal.S_.Idx => Cert.Rows.loss X) (hargs c).1

/-- The certificate. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, reference_frame, trivial, algebraic⟩

end Cert.Proof

end
